-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S6400000 : Shape := ⟨1, ![6400000]⟩
abbrev S119 : Shape := ⟨1, ![119]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel

variable [Facts]

def fn {F : FTy → Type} [FloatOps F] (main_arg0 : FVec F S6400000 .f32) (main_arg1 : IVec S6400000 32) (main_arg2 : IVec S6400000 32) (main_arg3 : FVec F S119 .f32) (main_arg4 : FVec F S119 .f32) : IVec S_ 1 :=
  let main_c : IVec S_ 32 := constantI S_ 32 0#32
  let main_v0 : IVec S6400000 32 := broadcastInDim S6400000 ![] bcast_S_S6400000 main_c
  let main_v1 : IVec S6400000 1 := cmpi .sge main_arg1 main_v0
  let main_c_0 : IVec S_ 1 := constantI S_ 1 1#1
  let main_v2 : IVec S_ 1 := (fun x v => Host.reduce IntOp.andi x v reducesTo_S6400000_S_d0 h_S_) main_v1 main_c_0
  let main_c_1 : IVec S_ 32 := constantI S_ 32 119#32
  let main_v3 : IVec S6400000 32 := broadcastInDim S6400000 ![] bcast_S_S6400000 main_c_1
  let main_v4 : IVec S6400000 1 := cmpi .slt main_arg1 main_v3
  let main_c_2 : IVec S_ 1 := constantI S_ 1 1#1
  let main_v5 : IVec S_ 1 := (fun x v => Host.reduce IntOp.andi x v reducesTo_S6400000_S_d0 h_S_) main_v4 main_c_2
  let main_v6 : IVec S_ 1 := andi main_v2 main_v5
  let main_c_3 : IVec S_ 32 := constantI S_ 32 0#32
  let main_v7 : IVec S6400000 32 := broadcastInDim S6400000 ![] bcast_S_S6400000 main_c_3
  let main_v8 : IVec S6400000 1 := cmpi .sge main_arg2 main_v7
  let main_c_4 : IVec S_ 1 := constantI S_ 1 1#1
  let main_v9 : IVec S_ 1 := (fun x v => Host.reduce IntOp.andi x v reducesTo_S6400000_S_d0 h_S_) main_v8 main_c_4
  let main_v10 : IVec S_ 1 := andi main_v6 main_v9
  let main_c_5 : IVec S_ 32 := constantI S_ 32 16384#32
  let main_v11 : IVec S6400000 32 := broadcastInDim S6400000 ![] bcast_S_S6400000 main_c_5
  let main_v12 : IVec S6400000 1 := cmpi .slt main_arg2 main_v11
  let main_c_6 : IVec S_ 1 := constantI S_ 1 1#1
  let main_v13 : IVec S_ 1 := (fun x v => Host.reduce IntOp.andi x v reducesTo_S6400000_S_d0 h_S_) main_v12 main_c_6
  let main_v14 : IVec S_ 1 := andi main_v10 main_v13
  main_v14
-- ==== Kernel.lean ====
abbrev S6400000 : Shape := ⟨1, ![6400000]⟩
abbrev S119 : Shape := ⟨1, ![119]⟩
abbrev S_ : Shape := ⟨0, ![]⟩
abbrev S128 : Shape := ⟨1, ![128]⟩
abbrev S1 : Shape := ⟨1, ![1]⟩
abbrev S32x16384 : Shape := ⟨2, ![32, 16384]⟩
abbrev S10000 : Shape := ⟨1, ![10000]⟩
abbrev S16384 : Shape := ⟨1, ![16384]⟩
abbrev S16 : Shape := ⟨1, ![16]⟩
abbrev S1x16384 : Shape := ⟨2, ![1, 16384]⟩

abbrev nBuf : Table → Nat
  | .hbm => 17
  | .local .tc .vmem => 2
  | .local .scVector .vmem => 9
  | _ => 0

abbrev bufTy : (tb : Table) → Fin (nBuf tb) → BufTy
  | .hbm, ⟨0, _⟩ => ⟨S6400000, .f32⟩
  | .hbm, ⟨1, _⟩ => ⟨S6400000, .i32⟩
  | .hbm, ⟨2, _⟩ => ⟨S6400000, .i32⟩
  | .hbm, ⟨3, _⟩ => ⟨S119, .f32⟩
  | .hbm, ⟨4, _⟩ => ⟨S119, .f32⟩
  | .hbm, ⟨5, _⟩ => ⟨S_, .f32⟩
  | .hbm, ⟨6, _⟩ => ⟨S128, .f32⟩
  | .hbm, ⟨7, _⟩ => ⟨S_, .i32⟩
  | .hbm, ⟨8, _⟩ => ⟨S1, .i32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S_, .i32⟩
  | .hbm, ⟨13, _⟩ => ⟨S1, .i32⟩
  | .hbm, ⟨14, _⟩ => ⟨S128, .f32⟩
  | .hbm, ⟨15, _⟩ => ⟨S32x16384, .f32⟩
  | .hbm, ⟨16, _⟩ => ⟨S16384, .f32⟩
  | .local .tc .vmem, ⟨0, _⟩ => ⟨S32x16384, .f32⟩
  | .local .tc .vmem, ⟨1, _⟩ => ⟨S16384, .f32⟩
  | .local .scVector .vmem, ⟨0, _⟩ => ⟨S128, .f32⟩
  | .local .scVector .vmem, ⟨1, _⟩ => ⟨S128, .f32⟩
  | .local .scVector .vmem, ⟨2, _⟩ => ⟨S10000, .f32⟩
  | .local .scVector .vmem, ⟨3, _⟩ => ⟨S10000, .f32⟩
  | .local .scVector .vmem, ⟨4, _⟩ => ⟨S10000, .i32⟩
  | .local .scVector .vmem, ⟨5, _⟩ => ⟨S10000, .i32⟩
  | .local .scVector .vmem, ⟨6, _⟩ => ⟨S10000, .i32⟩
  | .local .scVector .vmem, ⟨7, _⟩ => ⟨S10000, .i32⟩
  | .local .scVector .vmem, ⟨8, _⟩ => ⟨S16384, .f32⟩
  | _, _ => ⟨S6400000, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v2_scv : Ref sig .scVector := ⟨.hbm, 9, rfl⟩
abbrev main_v5_scv : Ref sig .scVector := ⟨.hbm, 14, rfl⟩
abbrev main_v6_scv : Ref sig .scVector := ⟨.hbm, 15, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c1024_i32 : BitVec 32 := 1024#32
  let v4 : BitVec 32 := Scalar.addi c0_i32_0 c1024_i32
  let c1_i32 : BitVec 32 := 1#32
  ⟨c0_i32_0, v4, c1_i32⟩
def k0_off1 (k0_t1 : Fin k0_t1_loop.trips) : Fin 1 → Nat :=
  let c0_i32_0 : BitVec 32 := 0#32
  let c1_i32 : BitVec 32 := 1#32
  let arg19 : BitVec 32 := Scf.iv c0_i32_0 c1_i32 k0_t1
  let c16_i32 : BitVec 32 := 16#32
  let v32 : BitVec 32 := Scalar.muli arg19 c16_i32
  let v33 : Index := Scalar.indexCast v32
  ![v33.toNat]
def k0_off2 (i : grid0.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let v5 : BitVec 32 := Scalar.addi v2 c0_i32_2
  ![v5.toNat]
@[reducible] def k0_t2_loop : Scf.Loop 32 :=
  let c0_i32_10 : BitVec 32 := 0#32
  let c10_i32 : BitVec 32 := 10#32
  let v25 : BitVec 32 := Scalar.addi c0_i32_10 c10_i32
  let c1_i32_11 : BitVec 32 := 1#32
  ⟨c0_i32_10, v25, c1_i32_11⟩

def k0_chk1 (v32 : IVec S16 32) : Prop :=
  (∀ a x, ((![v32] : Fin 1 → IVec S16 32) a x).toNat < S128.size a) ∧
  (∀ a x, ((![v32] : Fin 1 → IVec S16 32) a x).toNat < S128.size a)
theorem k0_idx1_inb : ∀ (v32 : IVec S16 32) (k0_hw1 : k0_chk1 v32), ∀ a x, ((![v32] : Fin 1 → IVec S16 32) a x).toNat < S128.size a := fun v32 k0_hw1 => k0_hw1.1
theorem k0_idx2_inb : ∀ (v32 : IVec S16 32) (k0_hw1 : k0_chk1 v32), ∀ a x, ((![v32] : Fin 1 → IVec S16 32) a x).toNat < S128.size a := fun v32 k0_hw1 => k0_hw1.2
@[reducible] def k0_t3_loop : Scf.Loop 32 :=
  let c1_i32_21 : BitVec 32 := 1#32
  let c624_i32 : BitVec 32 := 624#32
  let v39 : BitVec 32 := Scalar.addi c1_i32_21 c624_i32
  let c1_i32_22 : BitVec 32 := 1#32
  ⟨c1_i32_21, v39, c1_i32_22⟩
def k0_off3 (k0_t3 : Fin k0_t3_loop.trips) : Fin 1 → Nat :=
  let c1_i32_21 : BitVec 32 := 1#32
  let c1_i32_22 : BitVec 32 := 1#32
  let arg20 : BitVec 32 := Scf.iv c1_i32_21 c1_i32_22 k0_t3
  let c16_i32 : BitVec 32 := 16#32
  let v86 : BitVec 32 := Scalar.muli arg20 c16_i32
  let v87 : Index := Scalar.indexCast v86
  ![v87.toNat]

def k0_chk2 (v91 : IVec S16 32) : Prop :=
  (∀ a x, ((![v91] : Fin 1 → IVec S16 32) a x).toNat < S128.size a) ∧
  (∀ a x, ((![v91] : Fin 1 → IVec S16 32) a x).toNat < S128.size a)
theorem k0_idx3_inb : ∀ (v91 : IVec S16 32) (k0_hw2 : k0_chk2 v91), ∀ a x, ((![v91] : Fin 1 → IVec S16 32) a x).toNat < S128.size a := fun v91 k0_hw2 => k0_hw2.1
theorem k0_idx4_inb : ∀ (v91 : IVec S16 32) (k0_hw2 : k0_chk2 v91), ∀ a x, ((![v91] : Fin 1 → IVec S16 32) a x).toNat < S128.size a := fun v91 k0_hw2 => k0_hw2.2
def k0_off4 (k0_t3 : Fin k0_t3_loop.trips) : Fin 1 → Nat :=
  let c1_i32_21 : BitVec 32 := 1#32
  let c1_i32_22 : BitVec 32 := 1#32
  let arg20 : BitVec 32 := Scf.iv c1_i32_21 c1_i32_22 k0_t3
  let c16_i32_49 : BitVec 32 := 16#32
  let v89 : BitVec 32 := Scalar.muli arg20 c16_i32_49
  let v94 : Index := Scalar.indexCast v89
  ![v94.toNat]

def k0_chk3 (arg22 : IVec S16 32) : Prop :=
  (∀ a x, ((![arg22] : Fin 1 → IVec S16 32) a x).toNat < S16384.size a)
theorem k0_idx5_inb : ∀ (arg22 : IVec S16 32) (k0_hw3 : k0_chk3 arg22), ∀ a x, ((![arg22] : Fin 1 → IVec S16 32) a x).toNat < S16384.size a := fun arg22 k0_hw3 => k0_hw3

def k0_chk4 (v40_1 : IVec S16 32) : Prop :=
  (∀ a x, ((![v40_1] : Fin 1 → IVec S16 32) a x).toNat < S16384.size a)
theorem k0_idx6_inb : ∀ (v40_1 : IVec S16 32) (k0_hw4 : k0_chk4 v40_1), ∀ a x, ((![v40_1] : Fin 1 → IVec S16 32) a x).toNat < S16384.size a := fun v40_1 k0_hw4 => k0_hw4
def k0_mult1 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c2_i32_24 : BitVec 32 := 2#32
  let c0_i32_10 : BitVec 32 := 0#32
  let c1_i32_11 : BitVec 32 := 1#32
  let arg19 : BitVec 32 := Scf.iv c0_i32_10 c1_i32_11 k0_t2
  let v41 : BitVec 32 := Scalar.muli c2_i32_24 arg19
  let c2_i32_25 : BitVec 32 := 2#32
  let v42 : BitVec 32 := Scalar.addi v41 c2_i32_25
  let c10000_i32_26 : BitVec 32 := 10000#32
  let v43 : BitVec 32 := Scalar.muli v42 c10000_i32_26
  let v44 : BitVec 32 := Scalar.addi v2 v43
  let c6390000_i32 : BitVec 32 := 6390000#32
  let v45 : BitVec 32 := Scalar.minsi v44 c6390000_i32
  v45
def k0_off5 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c2_i32_24 : BitVec 32 := 2#32
  let c0_i32_10 : BitVec 32 := 0#32
  let c1_i32_11 : BitVec 32 := 1#32
  let arg19 : BitVec 32 := Scf.iv c0_i32_10 c1_i32_11 k0_t2
  let v41 : BitVec 32 := Scalar.muli c2_i32_24 arg19
  let c2_i32_25 : BitVec 32 := 2#32
  let v42 : BitVec 32 := Scalar.addi v41 c2_i32_25
  let c10000_i32_26 : BitVec 32 := 10000#32
  let v43 : BitVec 32 := Scalar.muli v42 c10000_i32_26
  let v44 : BitVec 32 := Scalar.addi v2 v43
  let c6390000_i32 : BitVec 32 := 6390000#32
  let v45 : BitVec 32 := Scalar.minsi v44 c6390000_i32
  let v46 : BitVec 32 := v45
  ![v46.toNat]

def k0_chk5 (v59 : IVec S16 32) : Prop :=
  (∀ a x, ((![v59] : Fin 1 → IVec S16 32) a x).toNat < S128.size a) ∧
  (∀ a x, ((![v59] : Fin 1 → IVec S16 32) a x).toNat < S128.size a)
theorem k0_idx7_inb : ∀ (v59 : IVec S16 32) (k0_hw5 : k0_chk5 v59), ∀ a x, ((![v59] : Fin 1 → IVec S16 32) a x).toNat < S128.size a := fun v59 k0_hw5 => k0_hw5.1
theorem k0_idx8_inb : ∀ (v59 : IVec S16 32) (k0_hw5 : k0_chk5 v59), ∀ a x, ((![v59] : Fin 1 → IVec S16 32) a x).toNat < S128.size a := fun v59 k0_hw5 => k0_hw5.2
@[reducible] def k0_t4_loop : Scf.Loop 32 :=
  let c1_i32_36 : BitVec 32 := 1#32
  let c624_i32_37 : BitVec 32 := 624#32
  let v66 : BitVec 32 := Scalar.addi c1_i32_36 c624_i32_37
  let c1_i32_38 : BitVec 32 := 1#32
  ⟨c1_i32_36, v66, c1_i32_38⟩
def k0_off6 (k0_t4 : Fin k0_t4_loop.trips) : Fin 1 → Nat :=
  let c1_i32_36 : BitVec 32 := 1#32
  let c1_i32_38 : BitVec 32 := 1#32
  let arg20 : BitVec 32 := Scf.iv c1_i32_36 c1_i32_38 k0_t4
  let c16_i32 : BitVec 32 := 16#32
  let v86 : BitVec 32 := Scalar.muli arg20 c16_i32
  let v87 : Index := Scalar.indexCast v86
  ![v87.toNat]

def k0_chk6 (v91 : IVec S16 32) : Prop :=
  (∀ a x, ((![v91] : Fin 1 → IVec S16 32) a x).toNat < S128.size a) ∧
  (∀ a x, ((![v91] : Fin 1 → IVec S16 32) a x).toNat < S128.size a)
theorem k0_idx9_inb : ∀ (v91 : IVec S16 32) (k0_hw6 : k0_chk6 v91), ∀ a x, ((![v91] : Fin 1 → IVec S16 32) a x).toNat < S128.size a := fun v91 k0_hw6 => k0_hw6.1
theorem k0_idx10_inb : ∀ (v91 : IVec S16 32) (k0_hw6 : k0_chk6 v91), ∀ a x, ((![v91] : Fin 1 → IVec S16 32) a x).toNat < S128.size a := fun v91 k0_hw6 => k0_hw6.2
def k0_off7 (k0_t4 : Fin k0_t4_loop.trips) : Fin 1 → Nat :=
  let c1_i32_36 : BitVec 32 := 1#32
  let c1_i32_38 : BitVec 32 := 1#32
  let arg20 : BitVec 32 := Scf.iv c1_i32_36 c1_i32_38 k0_t4
  let c16_i32_49 : BitVec 32 := 16#32
  let v89 : BitVec 32 := Scalar.muli arg20 c16_i32_49
  let v94 : Index := Scalar.indexCast v89
  ![v94.toNat]

def k0_chk7 (arg22 : IVec S16 32) : Prop :=
  (∀ a x, ((![arg22] : Fin 1 → IVec S16 32) a x).toNat < S16384.size a)
theorem k0_idx11_inb : ∀ (arg22 : IVec S16 32) (k0_hw7 : k0_chk7 arg22), ∀ a x, ((![arg22] : Fin 1 → IVec S16 32) a x).toNat < S16384.size a := fun arg22 k0_hw7 => k0_hw7

def k0_chk8 (v67_1 : IVec S16 32) : Prop :=
  (∀ a x, ((![v67_1] : Fin 1 → IVec S16 32) a x).toNat < S16384.size a)
theorem k0_idx12_inb : ∀ (v67_1 : IVec S16 32) (k0_hw8 : k0_chk8 v67_1), ∀ a x, ((![v67_1] : Fin 1 → IVec S16 32) a x).toNat < S16384.size a := fun v67_1 k0_hw8 => k0_hw8
def k0_mult2 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c2_i32_40 : BitVec 32 := 2#32
  let c0_i32_10 : BitVec 32 := 0#32
  let c1_i32_11 : BitVec 32 := 1#32
  let arg19 : BitVec 32 := Scf.iv c0_i32_10 c1_i32_11 k0_t2
  let v68 : BitVec 32 := Scalar.muli c2_i32_40 arg19
  let c3_i32 : BitVec 32 := 3#32
  let v69 : BitVec 32 := Scalar.addi v68 c3_i32
  let c10000_i32_41 : BitVec 32 := 10000#32
  let v70 : BitVec 32 := Scalar.muli v69 c10000_i32_41
  let v71 : BitVec 32 := Scalar.addi v2 v70
  let c6390000_i32_42 : BitVec 32 := 6390000#32
  let v72 : BitVec 32 := Scalar.minsi v71 c6390000_i32_42
  v72
def k0_off8 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c2_i32_40 : BitVec 32 := 2#32
  let c0_i32_10 : BitVec 32 := 0#32
  let c1_i32_11 : BitVec 32 := 1#32
  let arg19 : BitVec 32 := Scf.iv c0_i32_10 c1_i32_11 k0_t2
  let v68 : BitVec 32 := Scalar.muli c2_i32_40 arg19
  let c3_i32 : BitVec 32 := 3#32
  let v69 : BitVec 32 := Scalar.addi v68 c3_i32
  let c10000_i32_41 : BitVec 32 := 10000#32
  let v70 : BitVec 32 := Scalar.muli v69 c10000_i32_41
  let v71 : BitVec 32 := Scalar.addi v2 v70
  let c6390000_i32_42 : BitVec 32 := 6390000#32
  let v72 : BitVec 32 := Scalar.minsi v71 c6390000_i32_42
  let v73 : BitVec 32 := v72
  ![v73.toNat]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19_r2 : BitVec 32 := 0#32
  ![v1.toNat, 0]
abbrev grid1 : Pipeline.Grid := .none

abbrev stage1_0 : Fin 1 → Memref sig .tc .vmem S32x16384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S6400000 : Shape := ⟨1, ![6400000]⟩
abbrev S119 : Shape := ⟨1, ![119]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S16384 : Shape := ⟨1, ![16384]⟩

abbrev nBuf : Space → Nat
  | .hbm => 55
  | .vmem => 0
  | .smem => 0
  | _ => 0

abbrev bufTy : (tb : Table) → Fin (tcTables nBuf tb) → BufTy
  | .hbm, ⟨0, _⟩ => ⟨S6400000, .f32⟩
  | .hbm, ⟨1, _⟩ => ⟨S6400000, .i32⟩
  | .hbm, ⟨2, _⟩ => ⟨S6400000, .i32⟩
  | .hbm, ⟨3, _⟩ => ⟨S119, .f32⟩
  | .hbm, ⟨4, _⟩ => ⟨S119, .f32⟩
  | .hbm, ⟨5, _⟩ => ⟨S_, .i32⟩
  | .hbm, ⟨6, _⟩ => ⟨S6400000, .i32⟩
  | .hbm, ⟨7, _⟩ => ⟨S6400000, .i1⟩
  | .hbm, ⟨8, _⟩ => ⟨S_, .i32⟩
  | .hbm, ⟨9, _⟩ => ⟨S6400000, .i32⟩
  | .hbm, ⟨10, _⟩ => ⟨S6400000, .i32⟩
  | .hbm, ⟨11, _⟩ => ⟨S6400000, .i32⟩
  | .hbm, ⟨12, _⟩ => ⟨S6400000x1, .i32⟩
  | .hbm, ⟨13, _⟩ => ⟨S1, .i32⟩
  | .hbm, ⟨14, _⟩ => ⟨S_, .i32⟩
  | .hbm, ⟨15, _⟩ => ⟨S6400000x1, .i32⟩
  | .hbm, ⟨16, _⟩ => ⟨S6400000x1, .i1⟩
  | .hbm, ⟨17, _⟩ => ⟨S1x1, .i32⟩
  | .hbm, ⟨18, _⟩ => ⟨S6400000x1, .i32⟩
  | .hbm, ⟨19, _⟩ => ⟨S6400000x1, .i1⟩
  | .hbm, ⟨20, _⟩ => ⟨S6400000x1, .i1⟩
  | .hbm, ⟨21, _⟩ => ⟨S_, .i1⟩
  | .hbm, ⟨22, _⟩ => ⟨S6400000, .i1⟩
  | .hbm, ⟨23, _⟩ => ⟨S6400000, .f32⟩
  | .hbm, ⟨24, _⟩ => ⟨S_, .f32⟩
  | .hbm, ⟨25, _⟩ => ⟨S6400000, .f32⟩
  | .hbm, ⟨26, _⟩ => ⟨S6400000, .f32⟩
  | .hbm, ⟨27, _⟩ => ⟨S_, .i32⟩
  | .hbm, ⟨28, _⟩ => ⟨S6400000, .i32⟩
  | .hbm, ⟨29, _⟩ => ⟨S6400000, .i1⟩
  | .hbm, ⟨30, _⟩ => ⟨S_, .i32⟩
  | .hbm, ⟨31, _⟩ => ⟨S6400000, .i32⟩
  | .hbm, ⟨32, _⟩ => ⟨S6400000, .i32⟩
  | .hbm, ⟨33, _⟩ => ⟨S6400000, .i32⟩
  | .hbm, ⟨34, _⟩ => ⟨S6400000x1, .i32⟩
  | .hbm, ⟨35, _⟩ => ⟨S1, .i32⟩
  | .hbm, ⟨36, _⟩ => ⟨S_, .i32⟩
  | .hbm, ⟨37, _⟩ => ⟨S6400000x1, .i32⟩
  | .hbm, ⟨38, _⟩ => ⟨S6400000x1, .i1⟩
  | .hbm, ⟨39, _⟩ => ⟨S1x1, .i32⟩
  | .hbm, ⟨40, _⟩ => ⟨S6400000x1, .i32⟩
  | .hbm, ⟨41, _⟩ => ⟨S6400000x1, .i1⟩
  | .hbm, ⟨42, _⟩ => ⟨S6400000x1, .i1⟩
  | .hbm, ⟨43, _⟩ => ⟨S_, .i1⟩
  | .hbm, ⟨44, _⟩ => ⟨S6400000, .i1⟩
  | .hbm, ⟨45, _⟩ => ⟨S6400000, .f32⟩
  | .hbm, ⟨46, _⟩ => ⟨S_, .f32⟩
  | .hbm, ⟨47, _⟩ => ⟨S6400000, .f32⟩
  | .hbm, ⟨48, _⟩ => ⟨S6400000, .f32⟩
  | .hbm, ⟨49, _⟩ => ⟨S6400000, .f32⟩
  | .hbm, ⟨50, _⟩ => ⟨S6400000, .f32⟩
  | .hbm, ⟨51, _⟩ => ⟨S_, .f32⟩
  | .hbm, ⟨52, _⟩ => ⟨S16384, .f32⟩
  | .hbm, ⟨53, _⟩ => ⟨S6400000x1, .i32⟩
  | .hbm, ⟨54, _⟩ => ⟨S16384, .f32⟩
  | _, _ => ⟨S6400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_cst : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩

abbrev nD : Nat := 1
abbrev τ : Topo := Topo.v7x

variable {F : FTy → Type} [FloatOps F]
-- ==== Proof.Spec.lean ====
/-
  What one tile of the SparseCore kernel computes, as plain functions of the arrays it reads, over any float values.

  A tile takes twenty blocks of ten thousand atoms. Inside a block the atoms are taken sixteen at a time. Each of the sixteen
  lanes carries a running sum and the structure that sum belongs to. When a lane meets an atom of another structure it adds its
  running sum to that structure's entry of the tile's table and starts a new sum. At the end of a block every lane adds what
  it holds. `outTile` is the tile's table after its twenty blocks.
-/
module

public import proofs.«01_k».proof.Proof.Gen.KernelIdeal
public import proofs.«01_k».proof.Proof.Gen.KernelIdeal.Skeleton

@[expose] public section

noncomputable section

namespace Cert.Proof.Seg

open Cert.KernelIdeal Cert.KernelIdeal.Gen

open Idealize.ShloMosaic Idealize.SL.Sem

variable {F : FTy → Type} [FloatOps F] {e : EltTy}

/-- The index `k` of a rank-one shape of `n` elements. -/
def ix1 {n : ℕ} (k : ℕ) (h : k < n) : (⟨1, ![n]⟩ : Shape).Idx := fun a => ⟨k, by rw [Fin.eq_zero a]; exact h⟩

/-- Two indices of a rank-one shape are equal when their numbers are. -/
theorem idx_ext {n : ℕ} {i j : (⟨1, ![n]⟩ : Shape).Idx} (h : (i 0).val = (j 0).val) : i = j :=
  funext fun a => by rw [Fin.eq_zero a]; exact Fin.ext h

/-- The number of an index is below the extent. -/
theorem idx_lt {n : ℕ} (i : (⟨1, ![n]⟩ : Shape).Idx) : (i 0).val < n := (i 0).isLt

/-- The ten thousand elements of an array from element `o` on (the last element past the end). -/
def blk (o : ℕ) (f : Vec F S6400000 e) : Vec F S10000 e := fun x => f (ix1 (min (o + (x 0).val) 6399999) (by omega))

/-- The sixteen elements of a block from element `o` on. -/
def lanes (o : ℕ) (g : Vec F S10000 e) : Vec F S16 e := fun x => g (ix1 (min (o + (x 0).val) 9999) (by omega))

/-- The sixteen entries of a species table that sixteen species numbers name. -/
def gat (t : Vec F S128 .f32) (z : Vec F S16 .i32) : Vec F S16 .f32 := fun x => t (ix1 (min (z x : BitVec 32).toNat 127) (by omega))

/-- The sixteen structure numbers all name entries of the tile's table. -/
def InTable (b : Vec F S16 .i32) : Prop := ∀ (a : Fin S16384.rank) (x : S16.Idx), ((![b] : Fin 1 → IVec S16 32) a x).toNat < S16384.size a

open Classical in
/-- The tile's table with the masked lanes of `v` added at the entries `b` names. -/
def scat (acc : Vec F S16384 .f32) (b : Vec F S16 .i32) (v : Vec F S16 .f32) (mask : IVec S16 1) : Vec F S16384 .f32 :=
  if h : InTable b then storeIdx acc ![b] v mask true h else acc

/-- What the loop over a block carries: the tile's table, the lanes' running sums, the lanes' structures. -/
structure St (F : FTy → Type) where
  acc : Vec F S16384 .f32
  run : Vec F S16 .f32
  prev : Vec F S16 .i32

/-- At the block's start: the first sixteen atoms' energies and structures. -/
def st0 (t1 t2 : Vec F S128 .f32) (le : Vec F S10000 .f32) (z b : Vec F S10000 .i32) (acc : Vec F S16384 .f32) : St F :=
  ⟨acc, k0_pay4 (gat t1 (lanes 0 z)) (gat t2 (lanes 0 z)) (lanes 0 le), lanes 0 b⟩

/-- One trip: a lane whose next atom is of another structure flushes its sum and starts anew. -/
def stepT (t1 t2 : Vec F S128 .f32) (le : Vec F S10000 .f32) (z b : Vec F S10000 .i32) (k : ℕ) (s : St F) : St F :=
  ⟨scat s.acc s.prev s.run (k0_pay5 s.prev (lanes (16 * k + 16) b)),
    k0_pay6 s.run s.prev (lanes (16 * k + 16) b) (gat t1 (lanes (16 * k + 16) z)) (gat t2 (lanes (16 * k + 16) z)) (lanes (16 * k + 16) le),
    lanes (16 * k + 16) b⟩

/-- What the loop carries after `k` trips. -/
def inner (t1 t2 : Vec F S128 .f32) (le : Vec F S10000 .f32) (z b : Vec F S10000 .i32) (acc : Vec F S16384 .f32) : ℕ → St F
  | 0 => st0 t1 t2 le z b acc
  | k + 1 => stepT t1 t2 le z b k (inner t1 t2 le z b acc k)

/-- The tile's table after a block: the loop's 624 trips and the last flush of every lane. -/
def blockAcc (t1 t2 : Vec F S128 .f32) (le : Vec F S10000 .f32) (z b : Vec F S10000 .i32) (acc : Vec F S16384 .f32) : Vec F S16384 .f32 :=
  let s := inner t1 t2 le z b acc 624
  scat s.acc s.prev s.run (fun _ => 1#1)

/-- The table of zeros a tile starts from. -/
def zeroT : Vec F S16384 .f32 := fun _ => Scalar.ofBits .f32 0x00000000#32

/-- Tile `w`'s table after its first `g` blocks. -/
def accAfter (t1 t2 : Vec F S128 .f32) (le : Vec F S6400000 .f32) (z b : Vec F S6400000 .i32) (w : ℕ) : ℕ → Vec F S16384 .f32
  | 0 => zeroT
  | g + 1 => blockAcc t1 t2 (blk (w * 200000 + 10000 * g) le) (blk (w * 200000 + 10000 * g) z) (blk (w * 200000 + 10000 * g) b)
      (accAfter t1 t2 le z b w g)

/-- Tile `w`'s result. -/
def outTile (t1 t2 : Vec F S128 .f32) (le : Vec F S6400000 .f32) (z b : Vec F S6400000 .i32) (w : ℕ) : Vec F S16384 .f32 :=
  accAfter t1 t2 le z b w 20

/-- The thirty-two tiles' results, one row each. -/
def parts (t1 t2 : Vec F S128 .f32) (le : Vec F S6400000 .f32) (z b : Vec F S6400000 .i32) : Vec F S32x16384 .f32 :=
  fun x => outTile t1 t2 le z b (x 0).val (ix1 (x 1).val (x 1).isLt)

/-! ## The operations the kernel runs are these functions -/

/-- The gather out of a species table, its indices in range. -/
theorem loadIdx_eq_gat (t : Vec F S128 .f32) (z : Vec F S16 .i32) (h : ∀ (a : Fin S128.rank) (x : S16.Idx), ((![z] : Fin 1 → IVec S16 32) a x).toNat < S128.size a) :
    loadIdx t ![z] h = gat t z := by
  funext x
  refine congrArg t (idx_ext ?_)
  have h' : (z x : BitVec 32).toNat < 128 := h 0 x
  show (z x : BitVec 32).toNat = min (z x : BitVec 32).toNat 127
  omega

/-- The add-scatter into the tile's table, its indices in range. -/
theorem storeIdx_eq_scat (acc : Vec F S16384 .f32) (b : Vec F S16 .i32) (v : Vec F S16 .f32) (mask : IVec S16 1) (h : InTable b) :
    storeIdx acc ![b] v mask true h = scat acc b v mask := (dif_pos h).symm

/-- A block's structure numbers in range name entries of the table. -/
theorem inTable_lanes {b : Vec F S10000 .i32} (hb : ∀ i, (b i : BitVec 32).toNat < 16384) (o : ℕ) : InTable (lanes (F := F) o b) := by
  intro a x
  rw [Fin.eq_zero a]
  exact hb _

/-- A block's species numbers in range name entries of a species table. -/
theorem inSpecies_lanes {z : Vec F S10000 .i32} (hz : ∀ i, (z i : BitVec 32).toNat < 119) (o : ℕ) :
    ∀ (a : Fin S128.rank) (x : S16.Idx), ((![lanes (F := F) o z] : Fin 1 → IVec S16 32) a x).toNat < S128.size a := by
  intro a x
  rw [Fin.eq_zero a]
  exact lt_trans (hz _) (show 119 < 128 by decide)

/-- The lanes' structures after any number of trips are a block's lanes. -/
theorem inner_prev (t1 t2 : Vec F S128 .f32) (le : Vec F S10000 .f32) (z b : Vec F S10000 .i32) (acc : Vec F S16384 .f32) (k : ℕ) :
    (inner t1 t2 le z b acc k).prev = lanes (16 * k) b := by
  cases k with
  | zero => rfl
  | succ k => rfl

end Cert.Proof.Seg

end
-- ==== Proof.Setup.lean ====
/-
  The kernel's launch as the library's SparseCore theorem sees it: its configuration, the ghost state, the arrays' locations and
  the names of the buffers a tile works on. Shared by the modules on the tile's body and on the launch.
-/
module

public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions hold. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, the merging region's, and the transfers' counters. -/
abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

abbrev EH : Emb UH (MT nD τ sig (HIx 1) (Elt F) ℕ UU ℕ) := embL

/-- The region's component inside the machine's ghost state. -/
abbrev EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MM F)).LandsIn (upEmb : UEmb _ (MM F)) := by
  unfold EP; infer_instance

/-! ## The arrays -/

abbrev leLoc (d : Dev nD) : Loc nD τ sig := (SparseCore.T d).loc main_arg0
abbrev zLoc (d : Dev nD) : Loc nD τ sig := (SparseCore.T d).loc main_arg1
abbrev bLoc (d : Dev nD) : Loc nD τ sig := (SparseCore.T d).loc main_arg2
abbrev t1Loc (d : Dev nD) : Loc nD τ sig := (SparseCore.T d).loc main_v2
abbrev t2Loc (d : Dev nD) : Loc nD τ sig := (SparseCore.T d).loc main_v5
abbrev oLoc (d : Dev nD) : Loc nD τ sig := (SparseCore.T d).loc main_v6
abbrev rLoc (d : Dev nD) : Loc nD τ sig := (SparseCore.T d).loc main_v7

/-! ## The memrefs a tile's body is called with -/

abbrev leM : Memref sig .scVector .hbm S6400000 .f32 := Memref.whole main_arg0_scv
abbrev zM : Memref sig .scVector .hbm S6400000 .i32 := Memref.whole main_arg1_scv
abbrev bM : Memref sig .scVector .hbm S6400000 .i32 := Memref.whole main_arg2_scv
abbrev t1M : Memref sig .scVector .hbm S128 .f32 := Memref.whole main_v2_scv
abbrev t2M : Memref sig .scVector .hbm S128 .f32 := Memref.whole main_v5_scv
abbrev oM : Memref sig .scVector .hbm S32x16384 .f32 := Memref.whole main_v6_scv
abbrev s1M : Memref sig .scVector .vmem S128 .f32 := Memref.whole cc0_scratch0
abbrev s2M : Memref sig .scVector .vmem S128 .f32 := Memref.whole cc0_scratch1
abbrev le0M : Memref sig .scVector .vmem S10000 .f32 := Memref.whole cc0_scratch2
abbrev le1M : Memref sig .scVector .vmem S10000 .f32 := Memref.whole cc0_scratch3
abbrev z0M : Memref sig .scVector .vmem S10000 .i32 := Memref.whole cc0_scratch4
abbrev z1M : Memref sig .scVector .vmem S10000 .i32 := Memref.whole cc0_scratch5
abbrev b0M : Memref sig .scVector .vmem S10000 .i32 := Memref.whole cc0_scratch6
abbrev b1M : Memref sig .scVector .vmem S10000 .i32 := Memref.whole cc0_scratch7
abbrev accM : Memref sig .scVector .vmem S16384 .f32 := Memref.whole cc0_scratch8

/-! ## The tile's thread -/

/-- A tile's SparseCore and its number there, from the grid's coordinates. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The tile's number among the thirty-two. -/
abbrev wid (L : grid0.Coords) : ℕ := 2 * (L 1).val + (L 0).val

end Cert.Proof.Seg

end
-- ==== Proof.Held.lean ====
/-
  A tile's buffer held outright, by what it reads: loads, gathers, add-scatters and stores on it, at the functions of `Spec`.
-/
module

public import proofs.«01_k».proof.Proof.Setup

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (L : grid0.Coords)

/-- A program on the tile, and what holds at its end. -/
abbrev wpT {α : Type} (p : Prog (TpuEff nD τ sig (Elt F) Λ₀ (thr d L).2) α) (Q : α → sProp 𝕄) : sProp 𝕄 :=
  wp frame (wpE (defs₀ (F := F)) 𝒱₀ (thr d L) none) Set.univ p Q

/-- The buffer of `M` is held outright and `M` reads `g` off it. -/
def Held {s : Shape} {e : EltTy} (M : Memref sig .scVector .vmem s e) (g : Vec F s e) : sProp 𝕄 :=
  iprop(∃ f, ⌜M.view.read (Elt F) f = g⌝ ∗ M.view.loc (thr d L) ↦[M.view.set]{fullShare} f)

/-- A buffer just written whole reads what was written. -/
theorem held_of_write {s : Shape} {e : EltTy} (M : Memref sig .scVector .vmem s e) (g : Vec F s e) (f : Buf (Elt F) (M.view.loc (thr d L))) :
    (M.view.loc (thr d L) ↦[M.view.set]{fullShare} M.view.write (Elt F) f g Finset.univ) ⊢ (Held d L M g : sProp 𝕄) := by
  unfold Held
  iintro H
  iexists _
  isplitr
  swap; · iexact H
  ipureintro; exact View.read_write_univ _ _

/-- What a held buffer holds, forgetting the value. -/
theorem held_exists {s : Shape} {e : EltTy} (M : Memref sig .scVector .vmem s e) (g : Vec F s e) :
    (Held d L M g : sProp 𝕄) ⊢ iprop(∃ f, M.view.loc (thr d L) ↦[M.view.set]{fullShare} f) := by
  unfold Held
  iintro ⟨%f, -, H⟩
  iexists f; iexact H

/-- A load through a rectangle. -/
theorem wp_load_held {α : Type} {Q : α → sProp 𝕄} {s : Shape} {e : EltTy} (M : Memref sig .scVector .vmem s e) (g : Vec F s e) (r : Rect s)
    {hl : M.view.LoadsAt r} {k : (r.shape.Idx → Elt F e) → Prog (TpuEff nD τ sig (Elt F) Λ₀ (thr d L).2) α} (v : r.shape.Idx → Elt F e)
    (hv : ∀ x, g (r.emb x) = v x) :
    Held d L M g ⊢ iprop((Held d L M g -∗ wpT d L (k v) Q) -∗ wpT d L (.op (.load M r hl) k) Q) := by
  unfold Held
  iintro ⟨%f, %hf, H⟩ Hk
  iapply (wp_load_rect (defs := defs₀ (F := F)) 𝒱₀ (thr d L) none Set.univ (Q := Q) (m := M) (r := r) (hl := hl) (k := k) (q := fullShare) (f := f)
    (S := M.view.set) (View.set_slice_subset _ _)) $$ H
  iintro H
  have e1 : (M.access r).read (Elt F) f = v := by
    funext x
    rw [← hv x, ← hf]; rfl
  rw [e1]
  iapply Hk
  iexists f
  isplitr
  · ipureintro; exact hf
  iexact H

/-- A gather out of a species table. -/
theorem wp_gat_held {α : Type} {Q : α → sProp 𝕄} (M : Memref sig .scVector .vmem S128 .f32) (t : Vec F S128 .f32) (z : Vec F S16 .i32)
    {h : ∀ (a : Fin S128.rank) (x : S16.Idx), ((![z] : Fin 1 → IVec S16 32) a x).toNat < S128.size a} {hl : M.view.Loads}
    {k : Vec F S16 .f32 → Prog (TpuEff nD τ sig (Elt F) Λ₀ (thr d L).2) α} :
    Held d L M t ⊢ iprop((Held d L M t -∗ wpT d L (k (gat t z)) Q) -∗ wpT d L (SparseCore.vectorLoadIdx M ![z] h hl >>= k) Q) := by
  unfold Held
  iintro ⟨%f, %hf, H⟩ Hk
  iapply (SparseCore.wp_vectorLoadIdx (defs := defs₀ (F := F)) (𝒱 := 𝒱₀) (c := thr d L) (bd := none) (E := Set.univ) (Q := Q) (base := M) (idxs := ![z]) (h := h) (hl := hl) (k := k) (q := fullShare) (f := f)
    (S := M.view.set) (View.set_slice_subset _ _)) $$ H
  iintro H
  have e1 : (M.access (.whole S128)).read (Elt F) f = t := by
    funext x
    rw [← hf]
    show M.view.read (Elt F) f ((Rect.whole S128).emb x) = _
    rw [Rect.emb_whole_apply]
  rw [e1, loadIdx_eq_gat]
  iapply Hk
  iexists f
  isplitr
  · ipureintro; exact hf
  iexact H

/-- An add-scatter into the tile's table. -/
theorem wp_scat_held {α : Type} {Q : α → sProp 𝕄} (M : Memref sig .scVector .vmem S16384 .f32) (acc : Vec F S16384 .f32) (b : Vec F S16 .i32) (v : Vec F S16 .f32)
    (mask : IVec S16 1) {h : ∀ (a : Fin S16384.rank) (x : S16.Idx), ((![b] : Fin 1 → IVec S16 32) a x).toNat < S16384.size a} {hs : (M.access (.whole S16384)).Stores Finset.univ}
    {k : PUnit → Prog (TpuEff nD τ sig (Elt F) Λ₀ (thr d L).2) α} :
    Held d L M acc ⊢ iprop((Held d L M (scat acc b v mask) -∗ wpT d L (k ⟨⟩) Q) -∗ wpT d L (SparseCore.vectorStoreIdx M ![b] v mask true h hs >>= k) Q) := by
  unfold Held
  iintro ⟨%f, %hf, H⟩ Hk
  have hset : (M.access (.whole S16384)).set = M.view.set := by
    rw [View.set_slice, Rect.set_whole]; rfl
  have hemb : ∀ x : S16384.Idx, (Rect.whole S16384).emb x = x := fun x => by rw [Rect.emb_whole_apply]
  have hread : ∀ f', (M.access (.whole S16384)).read (Elt F) f' = M.view.read (Elt F) f' := by
    intro f'; funext x
    show M.view.read (Elt F) f' ((Rect.whole S16384).emb x) = _
    rw [hemb]
  rw [← hset]
  iapply (SparseCore.wp_vectorStoreIdx (defs := defs₀ (F := F)) (𝒱 := 𝒱₀) (c := thr d L) (bd := none) (E := Set.univ) (Q := Q) (base := M) (idxs := ![b]) (v := v) (mask := mask) (add := true) (h := h) (hs := hs) (k := k) (f := f)) $$ H
  iintro H
  iapply Hk
  iexists _
  isplitr
  swap; · iexact H
  ipureintro
  rw [← hread, View.read_write_univ, hread, hf]
  exact storeIdx_eq_scat acc b v mask h

/-- A store of a whole vector through a rectangle. -/
theorem wp_store_held {α : Type} {Q : α → sProp 𝕄} {s : Shape} {e : EltTy} (M : Memref sig .scVector .vmem s e) (g : Vec F s e) (r : Rect s)
    (w : r.shape.Idx → Elt F e) {hx : (M.access r).Stores Finset.univ} {hm : (Finset.univ : Finset r.shape.Idx) = Finset.univ ∨ ∀ a, r.stride a = 1}
    {k : PUnit → Prog (TpuEff nD τ sig (Elt F) Λ₀ (thr d L).2) α} (g' : Vec F s e)
    (hin : ∀ x, g' (r.emb x) = w x) (hout : ∀ y, y ∉ Finset.univ.map r.emb → g' y = g y) :
    Held d L M g ⊢ iprop((Held d L M g' -∗ wpT d L (k ⟨⟩) Q) -∗ wpT d L (.op (.store M r w Finset.univ hx hm) k) Q) := by
  unfold Held
  iintro ⟨%f, %hf, H⟩ Hk
  iapply (wp_store (defs := defs₀ (F := F)) 𝒱₀ (thr d L) none Set.univ (Q := Q) (m := M) (r := r) (w := w) (Mk := Finset.univ) (hx := hx) (hm := hm) (k := k) (f := f)
    (S := M.view.set) (View.set_slice_subset _ _)) $$ H
  iintro H
  iapply Hk
  iexists _
  isplitr
  swap; · iexact H
  ipureintro
  funext y
  by_cases hy : y ∈ Finset.univ.map r.emb
  · obtain ⟨x, -, rfl⟩ := Finset.mem_map.mp hy
    rw [hin]
    exact View.read_slice_write_emb (v := M.view) r f w (Finset.mem_univ x)
  · rw [hout y hy, ← hf]
    exact View.read_slice_write_of_not_mem (v := M.view) r f w Finset.univ hy

end Cert.Proof.Seg

end
-- ==== Proof.Inner.lean ====
/-
  The two loops over a block: what one trip does to the tile's table and the lanes, and the whole loop by an invariant.
-/
module

public import proofs.«01_k».proof.Proof.Held

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] {e : EltTy}

local notation "𝕄" => MM F

variable (d : Dev nD) (L : grid0.Coords)

/-- Sixteen elements of a block through a rectangle are the block's lanes there. -/
theorem lanes_of_rect (g : Vec F S10000 e) (off : Fin 1 → ℕ) (inb : ∀ a, off a + S16.size a ≤ S10000.size a) (o : ℕ) (ho : off 0 = o) (x : S16.Idx) :
    g ((Rect.unit (s := S10000) off S16.size inb).emb x) = lanes o g x := by
  refine congrArg g (idx_ext ?_)
  have h := inb 0
  have hx : (x 0).val < 16 := idx_lt x
  show off 0 + 1 * (x 0).val = min (o + (x 0).val) 9999
  have : off 0 + 16 ≤ 10000 := h
  omega

/-- The first sixteen. -/
theorem lanes_of_rect0 (g : Vec F S10000 e) (x : S16.Idx) :
    g ((Rect.unit (s := S10000) ![0] S16.size inb_S10000_S16_0).emb x) = lanes 0 g x := lanes_of_rect g ![0] _ 0 rfl x

/-- What the loops over a block hold: the two tables, the block's three arrays, the tile's table. -/
def HeldBlk (A : Memref sig .scVector .vmem S10000 .f32) (B C : Memref sig .scVector .vmem S10000 .i32)
    (t1 t2 : Vec F S128 .f32) (le : Vec F S10000 .f32) (z b : Vec F S10000 .i32) (acc : Vec F S16384 .f32) : sProp 𝕄 :=
  iprop(Held d L s1M t1 ∗ Held d L s2M t2 ∗ Held d L A le ∗ Held d L B z ∗ Held d L C b ∗ Held d L accM acc)

/-- What a loop over a block holds and carries after `k` trips. -/
def loopInv (A : Memref sig .scVector .vmem S10000 .f32) (B C : Memref sig .scVector .vmem S10000 .i32)
    (t1 t2 : Vec F S128 .f32) (le : Vec F S10000 .f32) (z b : Vec F S10000 .i32) (acc : Vec F S16384 .f32) (k : ℕ)
    (r : FVec F S16 .f32 × Vec F S16 .i32) : sProp 𝕄 :=
  iprop(⌜r = ((inner t1 t2 le z b acc k).run, (inner t1 t2 le z b acc k).prev)⌝ ∗ HeldBlk d L A B C t1 t2 le z b (inner t1 t2 le z b acc k).acc)

set_option maxHeartbeats 2000000 in
/-- One trip over the block of the even buffers. -/
theorem trip3 (v2 c0 c1 : BitVec 32) (p : Fin k0_t2_loop.trips) (k : Fin k0_t3_loop.trips) (t1 t2 : Vec F S128 .f32) (le : Vec F S10000 .f32)
    (z b : Vec F S10000 .i32) (hz : ∀ i, (z i : BitVec 32).toNat < 119) (hb : ∀ i, (b i : BitVec 32).toNat < 16384) (acc : Vec F S16384 .f32)
    (r : FVec F S16 .f32 × Vec F S16 .i32) :
    loopInv d L le0M z0M b0M t1 t2 le z b acc k.val r
      ⊢ wpT d L (k0_t3_body L leM (Memref.isWhole_whole _) zM (Memref.isWhole_whole _) bM (Memref.isWhole_whole _) t1M (Memref.isWhole_whole _) t2M (Memref.isWhole_whole _) oM (Memref.isWhole_whole _) s1M (Memref.isWhole_whole _) s2M (Memref.isWhole_whole _) le0M (Memref.isWhole_whole _) le1M (Memref.isWhole_whole _) z0M (Memref.isWhole_whole _) z1M (Memref.isWhole_whole _) b0M (Memref.isWhole_whole _) b1M (Memref.isWhole_whole _) accM (Memref.isWhole_whole _) cc0_scratch9 cc0_scratch10 cc0_scoped0 cc0_scoped1 cc0_scoped2 v2 c0 c1 p k r) (loopInv d L le0M z0M b0M t1 t2 le z b acc (k.val + 1)) := by
  unfold loopInv HeldBlk k0_t3_body
  iintro ⟨%hr, H1, H2, HA, HB, HC, Hacc⟩
  subst hr
  have hk0 : ∀ j, inner t1 t2 le z b acc (j + 1) = stepT t1 t2 le z b j (inner t1 t2 le z b acc j) := fun _ => rfl
  rw [hk0]
  have hprev : InTable (inner t1 t2 le z b acc k.val).prev := by
    rw [inner_prev]; exact inTable_lanes hb _
  generalize inner t1 t2 le z b acc k.val = st at hprev ⊢
  have ho3 : k0_off3 k 0 = 16 * k.val + 16 := by rw [k0_off3_eq]; rfl
  have ho4 : k0_off4 k 0 = 16 * k.val + 16 := by rw [k0_off4_eq]; rfl
  simp only [Prog.lift, Prog.bind_op, Prog.bind_ret, Prog.pure_eq_ret]
  iapply (wp_assume 𝒱₀ (thr d L) none Set.univ (fun a x => hprev a x))
  iapply (wp_load_held d L b0M b (Rect.unit (s := S10000) (k0_off3 k) S16.size (k0_off3_inb k)) (lanes (16 * k.val + 16) b) (lanes_of_rect b _ _ _ ho3)) $$ HC
  iintro HC
  iapply (wp_load_held d L z0M z (Rect.unit (s := S10000) (k0_off3 k) S16.size (k0_off3_inb k)) (lanes (16 * k.val + 16) z) (lanes_of_rect z _ _ _ ho3)) $$ HB
  iintro HB
  iapply (wp_assume 𝒱₀ (thr d L) none Set.univ ⟨inSpecies_lanes hz _, inSpecies_lanes hz _⟩)
  iapply (wp_gat_held d L s1M t1 (lanes (16 * k.val + 16) z)) $$ H1
  iintro H1
  iapply (wp_gat_held d L s2M t2 (lanes (16 * k.val + 16) z)) $$ H2
  iintro H2
  iapply (wp_load_held d L le0M le (Rect.unit (s := S10000) (k0_off4 k) S16.size (k0_off4_inb k)) (lanes (16 * k.val + 16) le) (lanes_of_rect le _ _ _ ho4)) $$ HA
  iintro HA
  iapply (wp_scat_held d L accM st.acc st.prev st.run _) $$ Hacc
  iintro Hacc
  unfold wpT
  rw [wp_ret]
  imodintro
  isplitr
  · ipureintro; rfl
  isplitl [H1]; · iexact H1
  isplitl [H2]; · iexact H2
  isplitl [HA]; · iexact HA
  isplitl [HB]; · iexact HB
  isplitl [HC]; · iexact HC
  iexact Hacc

/-- The loop over the block of the even buffers at the head of a program. -/
theorem wp_loop3 {α : Type} {Q : α → sProp 𝕄} (v2 c0 c1 : BitVec 32) (p : Fin k0_t2_loop.trips) (t1 t2 : Vec F S128 .f32) (le : Vec F S10000 .f32)
    (z b : Vec F S10000 .i32) (hz : ∀ i, (z i : BitVec 32).toNat < 119) (hb : ∀ i, (b i : BitVec 32).toNat < 16384) (acc : Vec F S16384 .f32)
    {kk : FVec F S16 .f32 × Vec F S16 .i32 → Prog (TpuEff nD τ sig (Elt F) Λ₀ (thr d L).2) α} :
    HeldBlk d L le0M z0M b0M t1 t2 le z b acc
      ⊢ iprop((HeldBlk d L le0M z0M b0M t1 t2 le z b (inner t1 t2 le z b acc 624).acc
          -∗ wpT d L (kk ((inner t1 t2 le z b acc 624).run, (inner t1 t2 le z b acc 624).prev)) Q)
        -∗ wpT d L (Scf.Loop.for k0_t3_loop k0_t3_ok
            (k0_pay4 (gat t1 (lanes 0 z)) (gat t2 (lanes 0 z)) (lanes 0 le), lanes 0 b) (k0_t3_body L leM (Memref.isWhole_whole _) zM (Memref.isWhole_whole _) bM (Memref.isWhole_whole _) t1M (Memref.isWhole_whole _) t2M (Memref.isWhole_whole _) oM (Memref.isWhole_whole _) s1M (Memref.isWhole_whole _) s2M (Memref.isWhole_whole _) le0M (Memref.isWhole_whole _) le1M (Memref.isWhole_whole _) z0M (Memref.isWhole_whole _) z1M (Memref.isWhole_whole _) b0M (Memref.isWhole_whole _) b1M (Memref.isWhole_whole _) accM (Memref.isWhole_whole _) cc0_scratch9 cc0_scratch10 cc0_scoped0 cc0_scoped1 cc0_scoped2 v2 c0 c1 p) >>= kk) Q) := by
  iintro H Hk
  iapply (Scf.wp_for_bind _ _ _ _ _ _ _ _ _ (loopInv d L le0M z0M b0M t1 t2 le z b acc)
    (fun k r => trip3 d L v2 c0 c1 p k t1 t2 le z b hz hb acc r)) $$ [H]
  · unfold loopInv
    isplitr
    · ipureintro; rfl
    iexact H
  iintro %r HI
  have ht : Scf.trips k0_t3_loop.lb k0_t3_loop.ub k0_t3_loop.st = 624 := by decide
  rw [ht]
  unfold loopInv
  icases HI with ⟨%hr, HI⟩
  rw [hr]
  iapply Hk
  iexact HI

set_option maxHeartbeats 2000000 in
/-- One trip over the block of the odd buffers. -/
theorem trip4 (k : Fin k0_t4_loop.trips) (t1 t2 : Vec F S128 .f32) (le : Vec F S10000 .f32)
    (z b : Vec F S10000 .i32) (hz : ∀ i, (z i : BitVec 32).toNat < 119) (hb : ∀ i, (b i : BitVec 32).toNat < 16384) (acc : Vec F S16384 .f32)
    (r : FVec F S16 .f32 × Vec F S16 .i32) :
    loopInv d L le1M z1M b1M t1 t2 le z b acc k.val r
      ⊢ wpT d L (k0_t4_body L leM (Memref.isWhole_whole _) zM (Memref.isWhole_whole _) bM (Memref.isWhole_whole _) t1M (Memref.isWhole_whole _) t2M (Memref.isWhole_whole _) oM (Memref.isWhole_whole _) s1M (Memref.isWhole_whole _) s2M (Memref.isWhole_whole _) le0M (Memref.isWhole_whole _) le1M (Memref.isWhole_whole _) z0M (Memref.isWhole_whole _) z1M (Memref.isWhole_whole _) b0M (Memref.isWhole_whole _) b1M (Memref.isWhole_whole _) accM (Memref.isWhole_whole _) cc0_scratch9 cc0_scratch10 cc0_scoped0 cc0_scoped1 cc0_scoped2 k r) (loopInv d L le1M z1M b1M t1 t2 le z b acc (k.val + 1)) := by
  unfold loopInv HeldBlk k0_t4_body
  iintro ⟨%hr, H1, H2, HA, HB, HC, Hacc⟩
  subst hr
  have hk0 : ∀ j, inner t1 t2 le z b acc (j + 1) = stepT t1 t2 le z b j (inner t1 t2 le z b acc j) := fun _ => rfl
  rw [hk0]
  have hprev : InTable (inner t1 t2 le z b acc k.val).prev := by
    rw [inner_prev]; exact inTable_lanes hb _
  generalize inner t1 t2 le z b acc k.val = st at hprev ⊢
  have ho3 : k0_off6 k 0 = 16 * k.val + 16 := by rw [k0_off6_eq]; rfl
  have ho4 : k0_off7 k 0 = 16 * k.val + 16 := by rw [k0_off7_eq]; rfl
  simp only [Prog.lift, Prog.bind_op, Prog.bind_ret, Prog.pure_eq_ret]
  iapply (wp_assume 𝒱₀ (thr d L) none Set.univ (fun a x => hprev a x))
  iapply (wp_load_held d L b1M b (Rect.unit (s := S10000) (k0_off6 k) S16.size (k0_off6_inb k)) (lanes (16 * k.val + 16) b) (lanes_of_rect b _ _ _ ho3)) $$ HC
  iintro HC
  iapply (wp_load_held d L z1M z (Rect.unit (s := S10000) (k0_off6 k) S16.size (k0_off6_inb k)) (lanes (16 * k.val + 16) z) (lanes_of_rect z _ _ _ ho3)) $$ HB
  iintro HB
  iapply (wp_assume 𝒱₀ (thr d L) none Set.univ ⟨inSpecies_lanes hz _, inSpecies_lanes hz _⟩)
  iapply (wp_gat_held d L s1M t1 (lanes (16 * k.val + 16) z)) $$ H1
  iintro H1
  iapply (wp_gat_held d L s2M t2 (lanes (16 * k.val + 16) z)) $$ H2
  iintro H2
  iapply (wp_load_held d L le1M le (Rect.unit (s := S10000) (k0_off7 k) S16.size (k0_off7_inb k)) (lanes (16 * k.val + 16) le) (lanes_of_rect le _ _ _ ho4)) $$ HA
  iintro HA
  iapply (wp_scat_held d L accM st.acc st.prev st.run _) $$ Hacc
  iintro Hacc
  unfold wpT
  rw [wp_ret]
  imodintro
  isplitr
  · ipureintro; rfl
  isplitl [H1]; · iexact H1
  isplitl [H2]; · iexact H2
  isplitl [HA]; · iexact HA
  isplitl [HB]; · iexact HB
  isplitl [HC]; · iexact HC
  iexact Hacc

/-- The loop over the block of the odd buffers at the head of a program. -/
theorem wp_loop4 {α : Type} {Q : α → sProp 𝕄} (t1 t2 : Vec F S128 .f32) (le : Vec F S10000 .f32)
    (z b : Vec F S10000 .i32) (hz : ∀ i, (z i : BitVec 32).toNat < 119) (hb : ∀ i, (b i : BitVec 32).toNat < 16384) (acc : Vec F S16384 .f32)
    {kk : FVec F S16 .f32 × Vec F S16 .i32 → Prog (TpuEff nD τ sig (Elt F) Λ₀ (thr d L).2) α} :
    HeldBlk d L le1M z1M b1M t1 t2 le z b acc
      ⊢ iprop((HeldBlk d L le1M z1M b1M t1 t2 le z b (inner t1 t2 le z b acc 624).acc
          -∗ wpT d L (kk ((inner t1 t2 le z b acc 624).run, (inner t1 t2 le z b acc 624).prev)) Q)
        -∗ wpT d L (Scf.Loop.for k0_t4_loop k0_t4_ok
            (k0_pay1 (gat t1 (lanes 0 z)) (gat t2 (lanes 0 z)) (lanes 0 le), lanes 0 b) (k0_t4_body L leM (Memref.isWhole_whole _) zM (Memref.isWhole_whole _) bM (Memref.isWhole_whole _) t1M (Memref.isWhole_whole _) t2M (Memref.isWhole_whole _) oM (Memref.isWhole_whole _) s1M (Memref.isWhole_whole _) s2M (Memref.isWhole_whole _) le0M (Memref.isWhole_whole _) le1M (Memref.isWhole_whole _) z0M (Memref.isWhole_whole _) z1M (Memref.isWhole_whole _) b0M (Memref.isWhole_whole _) b1M (Memref.isWhole_whole _) accM (Memref.isWhole_whole _) cc0_scratch9 cc0_scratch10 cc0_scoped0 cc0_scoped1 cc0_scoped2) >>= kk) Q) := by
  iintro H Hk
  iapply (Scf.wp_for_bind _ _ _ _ _ _ _ _ _ (loopInv d L le1M z1M b1M t1 t2 le z b acc)
    (fun k r => trip4 d L k t1 t2 le z b hz hb acc r)) $$ [H]
  · unfold loopInv
    isplitr
    · ipureintro; rfl
    iexact H
  iintro %r HI
  have ht : Scf.trips k0_t4_loop.lb k0_t4_loop.ub k0_t4_loop.st = 624 := by decide
  rw [ht]
  unfold loopInv
  icases HI with ⟨%hr, HI⟩
  rw [hr]
  iapply Hk
  iexact HI

end Cert.Proof.Seg

end
-- ==== Proof.Copies.lean ====
/-
  A tile's block fetches: the three copies of one block (energies, species, structures) started together on one semaphore, and
  the three waits that collect them. `InFlight` is what the tile holds in between.
-/
module

public import proofs.«01_k».proof.Proof.Setup

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

section

variable (d : Dev nD) (L : grid0.Coords)

/-- The block of ten thousand elements of an array from `off` on, as the tile addresses it. -/
abbrev sl {e : EltTy} (M : Memref sig .scVector .hbm S6400000 e) (off : Fin 1 → ℕ) (inb : ∀ a, off a + S10000.size a ≤ S6400000.size a) :
    Memref sig .scVector .hbm S10000 e := M.slice (Rect.unit (s := S6400000) off S10000.size inb) (fun _ => rfl)

/-- A copy's deliveries: the destination at the source block's elements, and the source's share back. -/
def deliv (A : Memref sig .scVector .vmem S10000 .f32) (B C : Memref sig .scVector .vmem S10000 .i32) (q : PosShare TreeShare)
    (le : Vec F S6400000 .f32) (z b : Vec F S6400000 .i32) (off : Fin 1 → ℕ) (inb : ∀ a, off a + S10000.size a ≤ S6400000.size a)
    (fA : Buf (Elt F) (A.view.loc (thr d L))) (fB : Buf (Elt F) (B.view.loc (thr d L))) (fC : Buf (Elt F) (C.view.loc (thr d L))) : Fin 3 → sProp 𝕄
  | ⟨0, _⟩ => iprop((A.view.loc (thr d L) ↦[A.view.set]{fullShare} A.view.write (Elt F) fA ((sl leM off inb).view.read (Elt F) le) Finset.univ)
      ∗ ((sl leM off inb).view.loc (thr d L) ↦[(sl leM off inb).view.set]{q} le))
  | ⟨1, _⟩ => iprop((B.view.loc (thr d L) ↦[B.view.set]{fullShare} B.view.write (Elt F) fB ((sl zM off inb).view.read (Elt F) z) Finset.univ)
      ∗ ((sl zM off inb).view.loc (thr d L) ↦[(sl zM off inb).view.set]{q} z))
  | ⟨2, _⟩ => iprop((C.view.loc (thr d L) ↦[C.view.set]{fullShare} C.view.write (Elt F) fC ((sl bM off inb).view.read (Elt F) b) Finset.univ)
      ∗ ((sl bM off inb).view.loc (thr d L) ↦[(sl bM off inb).view.set]{q} b))

instance deliv_storable (A : Memref sig .scVector .vmem S10000 .f32) (B C : Memref sig .scVector .vmem S10000 .i32) (q : PosShare TreeShare)
    (le : Vec F S6400000 .f32) (z b : Vec F S6400000 .i32) (off : Fin 1 → ℕ) (inb : ∀ a, off a + S10000.size a ≤ S6400000.size a)
    (fA : Buf (Elt F) (A.view.loc (thr d L))) (fB : Buf (Elt F) (B.view.loc (thr d L))) (fC : Buf (Elt F) (C.view.loc (thr d L))) :
    ∀ t, Storable (upEmb : UEmb _ 𝕄) (deliv d L A B C q le z b off inb fA fB fC t)
  | ⟨0, _⟩ => by unfold deliv; infer_instance
  | ⟨1, _⟩ => by unfold deliv; infer_instance
  | ⟨2, _⟩ => by unfold deliv; infer_instance

/-- One copy's credit on its semaphore. -/
abbrev NN : ℕ := (le0M).view.dmaCredit

/-- Three copies of the block at `off` in flight on `sem`: the batch of transfers, and the parts of the sources they do not read. -/
def InFlight (A : Memref sig .scVector .vmem S10000 .f32) (B C : Memref sig .scVector .vmem S10000 .i32) (sem : DmaSem sig) (q : PosShare TreeShare)
    (le : Vec F S6400000 .f32) (z b : Vec F S6400000 .i32) (off : Fin 1 → ℕ) : sProp 𝕄 :=
  iprop(∃ (inb : ∀ a, off a + S10000.size a ≤ S6400000.size a) (fA : Buf (Elt F) (A.view.loc (thr d L))) (fB : Buf (Elt F) (B.view.loc (thr d L)))
      (fC : Buf (Elt F) (C.view.loc (thr d L))),
    Transfers.Batch (countersEmb : UEmb Counters 𝕄) (thr d L) (.dma sem) (default : HIx 1) NN (deliv d L A B C q le z b off inb fA fB fC) 3 0
    ∗ ((leM).view.loc (thr d L) ↦[Finset.univ \ (sl leM off inb).view.set]{q} le)
    ∗ ((zM).view.loc (thr d L) ↦[Finset.univ \ (sl zM off inb).view.set]{q} z)
    ∗ ((bM).view.loc (thr d L) ↦[Finset.univ \ (sl bM off inb).view.set]{q} b))

set_option maxHeartbeats 1000000 in
/-- Starting the three copies of the block at `off`. -/
theorem wp_issue3 {α : Type} {Q : α → sProp 𝕄} (A : Memref sig .scVector .vmem S10000 .f32) (B C : Memref sig .scVector .vmem S10000 .i32) (sem : DmaSem sig) (q : PosShare TreeShare)
    (le : Vec F S6400000 .f32) (z b : Vec F S6400000 .i32) (off : Fin 1 → ℕ) (inb : ∀ a, off a + S10000.size a ≤ S6400000.size a)
    (hA : A.view.amount (SemLoc.dma sem) = NN) (hB : B.view.amount (SemLoc.dma sem) = NN) (hC : C.view.amount (SemLoc.dma sem) = NN)
    {h1 h2 h3 h4 h5 h6 h7 h8 h9} {k : PUnit → Prog (TpuEff nD τ sig (Elt F) Λ₀ (thr d L).2) α} :
    iprop(((leM).view.loc (thr d L) ↦{q} le) ∗ ((zM).view.loc (thr d L) ↦{q} z) ∗ ((bM).view.loc (thr d L) ↦{q} b)
        ∗ (∃ f, A.view.loc (thr d L) ↦[A.view.set]{fullShare} f) ∗ (∃ f, B.view.loc (thr d L) ↦[B.view.set]{fullShare} f)
        ∗ (∃ f, C.view.loc (thr d L) ↦[C.view.set]{fullShare} f) ∗ semVal (thr d L, SemLoc.dma sem) 0)
      ⊢ iprop((InFlight d L A B C sem q le z b off -∗ wp frame (wpE (defs₀ (F := F)) 𝒱₀ (thr d L) none) Set.univ (k ⟨⟩) Q)
        -∗ wp frame (wpE (defs₀ (F := F)) 𝒱₀ (thr d L) none) Set.univ
          (.op (.enqueueDma (sl leM off inb) (.here A) (.dma sem) h1 h2 h3) fun _ =>
            .op (.enqueueDma (sl zM off inb) (.here B) (.dma sem) h4 h5 h6) fun _ =>
            .op (.enqueueDma (sl bM off inb) (.here C) (.dma sem) h7 h8 h9) k) Q) := by
  iintro ⟨Hle, Hz, Hb, ⟨%fA, HA⟩, ⟨%fB, HB⟩, ⟨%fC, HC⟩, Hs⟩ Hk
  imod (Transfers.batch_alloc' (Lvl := ℕ) (countersEmb : UEmb Counters 𝕄) (thr d L) (default : HIx 1) NN (deliv d L A B C q le z b off inb fA fB fC) (sm := .dma sem) (E := Set.univ)) $$ Hs with HBt
  ihave Hle' := (pointsTo_split_subset (q := q) (f := le) (S := Finset.univ) (Finset.subset_univ (sl leM off inb).view.set)).1 $$ Hle
  icases Hle' with ⟨Hle, Hler⟩
  ihave Hz' := (pointsTo_split_subset (q := q) (f := z) (S := Finset.univ) (Finset.subset_univ (sl zM off inb).view.set)).1 $$ Hz
  icases Hz' with ⟨Hz, Hzr⟩
  ihave Hb' := (pointsTo_split_subset (q := q) (f := b) (S := Finset.univ) (Finset.subset_univ (sl bM off inb).view.set)).1 $$ Hb
  icases Hb' with ⟨Hb, Hbr⟩
  iapply (Transfers.wp_dmaBatch (countersEmb : UEmb Counters 𝕄) 𝒱₀ (thr d L) none (src := sl leM off inb) (dst := A) (default : HIx 1) NN hA subset_rfl
    (D := deliv d L A B C q le z b off inb fA fB fC) (j := 0) (u := 0) (by decide) (Nat.zero_le _) (by unfold deliv; exact .rfl)) $$ [Hle HA HBt]
  · isplitl [Hle]; · iexact Hle
    isplitl [HA]; · iexact HA
    iexact HBt
  iintro HBt
  iapply (Transfers.wp_dmaBatch (countersEmb : UEmb Counters 𝕄) 𝒱₀ (thr d L) none (src := sl zM off inb) (dst := B) (default : HIx 1) NN hB subset_rfl
    (D := deliv d L A B C q le z b off inb fA fB fC) (j := 1) (u := 0) (by decide) (Nat.zero_le _) (by unfold deliv; exact .rfl)) $$ [Hz HB HBt]
  · isplitl [Hz]; · iexact Hz
    isplitl [HB]; · iexact HB
    iexact HBt
  iintro HBt
  iapply (Transfers.wp_dmaBatch (countersEmb : UEmb Counters 𝕄) 𝒱₀ (thr d L) none (src := sl bM off inb) (dst := C) (default : HIx 1) NN hC subset_rfl
    (D := deliv d L A B C q le z b off inb fA fB fC) (j := 2) (u := 0) (by decide) (Nat.zero_le _) (by unfold deliv; exact .rfl)) $$ [Hb HC HBt]
  · isplitl [Hb]; · iexact Hb
    isplitl [HC]; · iexact HC
    iexact HBt
  iintro HBt
  iapply Hk
  unfold InFlight
  iexists inb, fA, fB, fC
  isplitl [HBt]; · iexact HBt
  isplitl [Hler]; · iexact Hler
  isplitl [Hzr]; · iexact Hzr
  iexact Hbr

set_option maxHeartbeats 1000000 in
/-- The three waits: the sources' shares whole again, the block's elements in the three buffers, the semaphore at zero. -/
theorem wp_wait3 {α : Type} {Q : α → sProp 𝕄} (A : Memref sig .scVector .vmem S10000 .f32) (B C : Memref sig .scVector .vmem S10000 .i32) (sem : DmaSem sig) (q : PosShare TreeShare)
    (le : Vec F S6400000 .f32) (z b : Vec F S6400000 .i32) (off : Fin 1 → ℕ)
    (hA : A.view.dmaCredit = NN) (hB : B.view.dmaCredit = NN) (hC : C.view.dmaCredit = NN)
    {s1 : Memref sig .scVector .hbm S10000 .f32} {s2 s3 : Memref sig .scVector .hbm S10000 .i32}
    {h1 h2 h3 h4 h5 h6} {k : PUnit → Prog (TpuEff nD τ sig (Elt F) Λ₀ (thr d L).2) α} {O : CellTallies nD τ sig (HIx 1)} {W : Waits sig (HIx 1)} :
    iprop(InFlight d L A B C sem q le z b off ∗ Transfers.MayWaits (thr d L) (default : HIx 1) O
        ∗ ∃ W', ⌜∀ p ∈ W', p ∈ W ∨ p.2 = none⌝ ∗ owes (thr d L) O W')
      ⊢ iprop((iprop(((leM).view.loc (thr d L) ↦{q} le) ∗ ((zM).view.loc (thr d L) ↦{q} z) ∗ ((bM).view.loc (thr d L) ↦{q} b)
            ∗ (∃ fA, A.view.loc (thr d L) ↦[A.view.set]{fullShare} A.view.write (Elt F) fA (blk (off 0) le) Finset.univ)
            ∗ (∃ fB, B.view.loc (thr d L) ↦[B.view.set]{fullShare} B.view.write (Elt F) fB (blk (off 0) z) Finset.univ)
            ∗ (∃ fC, C.view.loc (thr d L) ↦[C.view.set]{fullShare} C.view.write (Elt F) fC (blk (off 0) b) Finset.univ)
            ∗ semVal (thr d L, SemLoc.dma sem) 0
            ∗ ∃ W', ⌜∀ p ∈ W', p ∈ W ∨ p.2 = none⌝ ∗ owes (thr d L) O W')
          -∗ wp frame (wpE (defs₀ (F := F)) 𝒱₀ (thr d L) none) Set.univ (k ⟨⟩) Q)
        -∗ wp frame (wpE (defs₀ (F := F)) 𝒱₀ (thr d L) none) Set.univ
          (.op (.waitDma2 sem s1 A h1 h2) fun _ => .op (.waitDma2 sem s2 B h3 h4) fun _ => .op (.waitDma2 sem s3 C h5 h6) k) Q) := by
  unfold InFlight
  iintro ⟨⟨%inb, %fA, %fB, %fC, HBt, Hler, Hzr, Hbr⟩, #Hmw, ⟨%W', %hW', HO⟩⟩ Hk
  have hr1 : (sl leM off inb).view.read (Elt F) le = blk (off 0) le := by
    funext x; refine congrArg le (idx_ext ?_)
    have h := inb 0
    have hx : (x 0).val < 10000 := idx_lt x
    show off 0 + 1 * (x 0).val = min (off 0 + (x 0).val) 6399999
    have : off 0 + 10000 ≤ 6400000 := h
    omega
  have hr2 : (sl zM off inb).view.read (Elt F) z = blk (off 0) z := by
    funext x; refine congrArg z (idx_ext ?_)
    have h := inb 0
    have hx : (x 0).val < 10000 := idx_lt x
    show off 0 + 1 * (x 0).val = min (off 0 + (x 0).val) 6399999
    have : off 0 + 10000 ≤ 6400000 := h
    omega
  have hr3 : (sl bM off inb).view.read (Elt F) b = blk (off 0) b := by
    funext x; refine congrArg b (idx_ext ?_)
    have h := inb 0
    have hx : (x 0).val < 10000 := idx_lt x
    show off 0 + 1 * (x 0).val = min (off 0 + (x 0).val) 6399999
    have : off 0 + 10000 ≤ 6400000 := h
    omega
  iapply (Transfers.wp_waitBatchO (countersEmb : UEmb Counters 𝕄) 𝒱₀ (thr d L) none (default : HIx 1) hA
    (D := deliv d L A B C q le z b off inb fA fB fC) (u := 0) (by decide)) $$ [HBt HO]
  · isplitl [HBt]; · iexact HBt
    isplitl [HO]; · iexact HO
    iapply (Transfers.MayWaits.elim (SemLoc.dma sem)) $$ Hmw
  iintro ⟨HBt, HO⟩
  iapply (Transfers.wp_waitBatchO (countersEmb : UEmb Counters 𝕄) 𝒱₀ (thr d L) none (default : HIx 1) hB
    (D := deliv d L A B C q le z b off inb fA fB fC) (u := 0 + NN) (by decide)) $$ [HBt HO]
  · isplitl [HBt]; · iexact HBt
    isplitl [HO]; · iexact HO
    iapply (Transfers.MayWaits.elim (SemLoc.dma sem)) $$ Hmw
  iintro ⟨HBt, HO⟩
  iapply (Transfers.wp_waitBatchLastO (countersEmb : UEmb Counters 𝕄) 𝒱₀ (thr d L) none (default : HIx 1) hC (by decide)
    (D := deliv d L A B C q le z b off inb fA fB fC) (u := 0 + NN + NN) (by decide)) $$ [HBt HO]
  · isplitl [HBt]; · iexact HBt
    isplitl [HO]; · iexact HO
    iapply (Transfers.MayWaits.elim (SemLoc.dma sem)) $$ Hmw
  iintro ⟨HD, Hs, HO⟩
  ihave HD' := (show bigSep Finset.univ (deliv d L A B C q le z b off inb fA fB fC) ⊢ iprop(deliv d L A B C q le z b off inb fA fB fC 0
      ∗ deliv d L A B C q le z b off inb fA fB fC 1 ∗ deliv d L A B C q le z b off inb fA fB fC 2) by
    rw [Idealize.SL.BI.bigSep_univ_eq_bigSepL [0, 1, 2] (by decide) (by decide) _]; exact .rfl) $$ HD
  unfold deliv
  icases HD' with ⟨⟨HA, Hle⟩, ⟨HB, Hz⟩, HC, Hb⟩
  ihave Hle' := (pointsTo_split_subset (ℓ := (leM).view.loc (thr d L)) (q := q) (f := le) (S := Finset.univ) (Finset.subset_univ (sl leM off inb).view.set)).2 $$ [Hle Hler]
  · isplitl [Hle] <;> iassumption
  ihave Hz' := (pointsTo_split_subset (ℓ := (zM).view.loc (thr d L)) (q := q) (f := z) (S := Finset.univ) (Finset.subset_univ (sl zM off inb).view.set)).2 $$ [Hz Hzr]
  · isplitl [Hz] <;> iassumption
  ihave Hb' := (pointsTo_split_subset (ℓ := (bM).view.loc (thr d L)) (q := q) (f := b) (S := Finset.univ) (Finset.subset_univ (sl bM off inb).view.set)).2 $$ [Hb Hbr]
  · isplitl [Hb] <;> iassumption
  rw [hr1, hr2, hr3]
  iapply Hk
  isplitl [Hle']; · iexact Hle'
  isplitl [Hz']; · iexact Hz'
  isplitl [Hb']; · iexact Hb'
  isplitl [HA]; · iexists fA; iexact HA
  isplitl [HB]; · iexists fB; iexact HB
  isplitl [HC]; · iexists fC; iexact HC
  isplitl [Hs]; · iexact Hs
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end

end Cert.Proof.Seg

end
-- ==== Proof.Pair.lean ====
/-
  One trip of the tile's main loop: a block in the even buffers, the next in the odd buffers, each refilled behind.
-/
module

public import proofs.«01_k».proof.Proof.Inner
public import proofs.«01_k».proof.Proof.Copies

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (L : grid0.Coords)

/-- Shares of the three big arrays. -/
def Src (q : PosShare TreeShare) (le : Vec F S6400000 .f32) (z b : Vec F S6400000 .i32) : sProp 𝕄 :=
  iprop(((leM).view.loc (thr d L) ↦{q} le) ∗ ((zM).view.loc (thr d L) ↦{q} z) ∗ ((bM).view.loc (thr d L) ↦{q} b))

/-- The tile's promises kept so far: only waits that no rank restricts were added. -/
def Owed (O : CellTallies nD τ sig (HIx 1)) (W : Waits sig (HIx 1)) : sProp 𝕄 :=
  iprop(∃ W', ⌜∀ p ∈ W', p ∈ W ∨ p.2 = none⌝ ∗ owes (thr d L) O W')

/-- Starting three copies into held buffers. -/
theorem wp_issue3h {α : Type} {Q : α → sProp 𝕄} (A : Memref sig .scVector .vmem S10000 .f32) (B C : Memref sig .scVector .vmem S10000 .i32) (sem : DmaSem sig) (q : PosShare TreeShare)
    (le : Vec F S6400000 .f32) (z b : Vec F S6400000 .i32) (off : Fin 1 → ℕ) (inb : ∀ a, off a + S10000.size a ≤ S6400000.size a)
    (hA : A.view.amount (SemLoc.dma sem) = NN) (hB : B.view.amount (SemLoc.dma sem) = NN) (hC : C.view.amount (SemLoc.dma sem) = NN)
    (gA : Vec F S10000 .f32) (gB gC : Vec F S10000 .i32)
    {h1 h2 h3 h4 h5 h6 h7 h8 h9} {k : PUnit → Prog (TpuEff nD τ sig (Elt F) Λ₀ (thr d L).2) α} :
    iprop(Src d L q le z b ∗ Held d L A gA ∗ Held d L B gB ∗ Held d L C gC ∗ semVal (thr d L, SemLoc.dma sem) 0)
      ⊢ iprop((InFlight d L A B C sem q le z b off -∗ wpT d L (k ⟨⟩) Q)
        -∗ wpT d L
          (.op (.enqueueDma (sl leM off inb) (.here A) (.dma sem) h1 h2 h3) fun _ =>
            .op (.enqueueDma (sl zM off inb) (.here B) (.dma sem) h4 h5 h6) fun _ =>
            .op (.enqueueDma (sl bM off inb) (.here C) (.dma sem) h7 h8 h9) k) Q) := by
  unfold Src
  iintro ⟨⟨H1, H2, H3⟩, HA, HB, HC, Hs⟩
  ihave HA' := (held_exists d L A gA) $$ HA
  ihave HB' := (held_exists d L B gB) $$ HB
  ihave HC' := (held_exists d L C gC) $$ HC
  iapply (wp_issue3 d L A B C sem q le z b off inb hA hB hC) $$ [H1 H2 H3 HA' HB' HC' Hs]
  isplitl [H1]; · iexact H1
  isplitl [H2]; · iexact H2
  isplitl [H3]; · iexact H3
  isplitl [HA']; · iexact HA'
  isplitl [HB']; · iexact HB'
  isplitl [HC']; · iexact HC'
  iexact Hs

/-- The three waits: the block's elements held in the three buffers. -/
theorem wp_wait3h {α : Type} {Q : α → sProp 𝕄} (A : Memref sig .scVector .vmem S10000 .f32) (B C : Memref sig .scVector .vmem S10000 .i32) (sem : DmaSem sig) (q : PosShare TreeShare)
    (le : Vec F S6400000 .f32) (z b : Vec F S6400000 .i32) (off : Fin 1 → ℕ)
    (hA : A.view.dmaCredit = NN) (hB : B.view.dmaCredit = NN) (hC : C.view.dmaCredit = NN)
    {s1 : Memref sig .scVector .hbm S10000 .f32} {s2 s3 : Memref sig .scVector .hbm S10000 .i32}
    {h1 h2 h3 h4 h5 h6} {k : PUnit → Prog (TpuEff nD τ sig (Elt F) Λ₀ (thr d L).2) α} {O : CellTallies nD τ sig (HIx 1)} {W : Waits sig (HIx 1)} :
    iprop(InFlight d L A B C sem q le z b off ∗ Transfers.MayWaits (thr d L) (default : HIx 1) O ∗ Owed d L O W)
      ⊢ iprop((iprop(Src d L q le z b ∗ Held d L A (blk (off 0) le) ∗ Held d L B (blk (off 0) z) ∗ Held d L C (blk (off 0) b)
            ∗ semVal (thr d L, SemLoc.dma sem) 0 ∗ Owed d L O W)
          -∗ wpT d L (k ⟨⟩) Q)
        -∗ wpT d L (.op (.waitDma2 sem s1 A h1 h2) fun _ => .op (.waitDma2 sem s2 B h3 h4) fun _ => .op (.waitDma2 sem s3 C h5 h6) k) Q) := by
  unfold Src Owed
  iintro H Hk
  iapply (wp_wait3 d L A B C sem q le z b off hA hB hC) $$ H
  iintro ⟨H1, H2, H3, ⟨%fA, HA⟩, ⟨%fB, HB⟩, ⟨%fC, HC⟩, Hs, HO⟩
  iapply Hk
  isplitl [H1 H2 H3]
  · isplitl [H1]; · iexact H1
    isplitl [H2]; · iexact H2
    iexact H3
  isplitl [HA]; · iapply (held_of_write d L A); iexact HA
  isplitl [HB]; · iapply (held_of_write d L B); iexact HB
  isplitl [HC]; · iapply (held_of_write d L C); iexact HC
  isplitl [Hs]; · iexact Hs
  iexact HO

/-- Where the block in the even buffers starts before trip `p`. -/
abbrev eo (w p : ℕ) : ℕ := min (w * 200000 + 20000 * p) 6390000
/-- Where the block in the odd buffers starts in trip `p`. -/
abbrev oo (w p : ℕ) : ℕ := min (w * 200000 + 20000 * p + 10000) 6390000

/-- Between trips: the tables, the even block and the tile's table held, the odd block in flight. -/
def pairInv (qL qR : PosShare TreeShare) (t1 t2 : Vec F S128 .f32) (le : Vec F S6400000 .f32) (z b : Vec F S6400000 .i32)
    (O : CellTallies nD τ sig (HIx 1)) (W : Waits sig (HIx 1)) (p : ℕ) : sProp 𝕄 :=
  iprop(HeldBlk d L le0M z0M b0M t1 t2 (blk (eo (wid L) p) le) (blk (eo (wid L) p) z) (blk (eo (wid L) p) b) (accAfter t1 t2 le z b (wid L) (2 * p))
    ∗ Src d L qL le z b ∗ semVal (thr d L, SemLoc.dma cc0_scratch9.sem) 0
    ∗ InFlight d L le1M z1M b1M cc0_scratch10.sem qR le z b ![oo (wid L) p]
    ∗ Transfers.MayWaits (thr d L) (default : HIx 1) O ∗ Owed d L O W)

/-- A tile's number is below 32. -/
theorem wid_lt : wid L < 32 := by
  have h0 : (L 0).val < 2 := (L 0).isLt
  have h1 : (L 1).val < 16 := (L 1).isLt
  show 2 * (L 1).val + (L 0).val < 32
  omega

set_option maxHeartbeats 4000000 in
/-- One trip of the main loop. -/
theorem trip2 (v2 c0 : BitVec 32) (p : Fin k0_t2_loop.trips) (u : Unit) (qL qR : PosShare TreeShare) (t1 t2 : Vec F S128 .f32) (le : Vec F S6400000 .f32) (z b : Vec F S6400000 .i32)
    (hz : ∀ i, (z i : BitVec 32).toNat < 119) (hb : ∀ i, (b i : BitVec 32).toNat < 16384) (O : CellTallies nD τ sig (HIx 1)) (W : Waits sig (HIx 1)) :
    pairInv d L qL qR t1 t2 le z b O W p.val
      ⊢ wpT d L (k0_t2_body L leM (Memref.isWhole_whole _) zM (Memref.isWhole_whole _) bM (Memref.isWhole_whole _) t1M (Memref.isWhole_whole _) t2M (Memref.isWhole_whole _) oM (Memref.isWhole_whole _) s1M (Memref.isWhole_whole _) s2M (Memref.isWhole_whole _) le0M (Memref.isWhole_whole _) le1M (Memref.isWhole_whole _) z0M (Memref.isWhole_whole _) z1M (Memref.isWhole_whole _) b0M (Memref.isWhole_whole _) b1M (Memref.isWhole_whole _) accM (Memref.isWhole_whole _) cc0_scratch9 cc0_scratch10 cc0_scoped0 cc0_scoped1 cc0_scoped2 v2 c0 p u) (fun _ => pairInv d L qL qR t1 t2 le z b O W (p.val + 1)) := by
  have hw := wid_lt L
  have hp : p.val < 10 := lt_of_lt_of_le p.isLt (by decide)
  have hz0 : ∀ o i, (blk (F := F) o z i : BitVec 32).toNat < 119 := fun o i => hz _
  have hb0 : ∀ o i, (blk (F := F) o b i : BitVec 32).toNat < 16384 := fun o i => hb _
  have hwid : wid L = 2 * (L 1).val + (L 0).val := rfl
  have hoff5 : k0_off5 L p = ![eo (wid L) (p.val + 1)] := by
    rw [k0_off5_eq]
    have h : 400000 * (L 1).val + 200000 * (L 0).val + 20000 * p.val + 20000 = wid L * 200000 + 20000 * (p.val + 1) := by rw [hwid]; omega
    rw [h]
  have hoff8 : k0_off8 L p = ![oo (wid L) (p.val + 1)] := by
    rw [k0_off8_eq]
    have h : 400000 * (L 1).val + 200000 * (L 0).val + 20000 * p.val + 30000 = wid L * 200000 + 20000 * (p.val + 1) + 10000 := by rw [hwid]; omega
    rw [h]
  have heo : eo (wid L) p.val = wid L * 200000 + 10000 * (2 * p.val) := by unfold eo; exact Nat.min_eq_left (by omega) |>.trans (by omega)
  have hoo : oo (wid L) p.val = wid L * 200000 + 10000 * (2 * p.val + 1) := by unfold oo; exact Nat.min_eq_left (by omega) |>.trans (by omega)
  have hacc : accAfter t1 t2 le z b (wid L) (2 * (p.val + 1)) =
      blockAcc t1 t2 (blk (oo (wid L) p.val) le) (blk (oo (wid L) p.val) z) (blk (oo (wid L) p.val) b)
        (blockAcc t1 t2 (blk (eo (wid L) p.val) le) (blk (eo (wid L) p.val) z) (blk (eo (wid L) p.val) b) (accAfter t1 t2 le z b (wid L) (2 * p.val))) := by
    rw [heo, hoo]; rfl
  unfold pairInv
  rw [hacc]
  generalize accAfter t1 t2 le z b (wid L) (2 * p.val) = acc
  generalize oo (wid L) p.val = o1
  generalize eo (wid L) p.val = o0
  unfold k0_t2_body
  simp only [k0_part1_eq_skeleton]; unfold k0_part1_skel
  simp only [Prog.lift, Prog.bind_op, Prog.bind_ret, Prog.pure_eq_ret, Prog.bind_assoc]
  iintro ⟨HH, Hsrc, Hs0, Hfl, #Hmw, HO⟩
  unfold HeldBlk
  icases HH with ⟨H1, H2, HA, HB, HC, Hacc⟩
  -- the even block
  iapply (wp_load_held d L z0M _ (Rect.unit (s := S10000) ![0] S16.size inb_S10000_S16_0) (lanes 0 (blk o0 z)) (lanes_of_rect0 _)) $$ HB
  iintro HB
  iapply (wp_assume 𝒱₀ (thr d L) none Set.univ ⟨inSpecies_lanes (hz0 _) _, inSpecies_lanes (hz0 _) _⟩)
  iapply (wp_gat_held d L s1M t1 (lanes 0 (blk o0 z))) $$ H1
  iintro H1
  iapply (wp_gat_held d L s2M t2 (lanes 0 (blk o0 z))) $$ H2
  iintro H2
  iapply (wp_load_held d L le0M _ (Rect.unit (s := S10000) ![0] S16.size inb_S10000_S16_0) (lanes 0 (blk o0 le)) (lanes_of_rect0 _)) $$ HA
  iintro HA
  iapply (wp_load_held d L b0M _ (Rect.unit (s := S10000) ![0] S16.size inb_S10000_S16_0) (lanes 0 (blk o0 b)) (lanes_of_rect0 _)) $$ HC
  iintro HC
  iapply (wp_loop3 d L v2 c0 1#32 p t1 t2 (blk o0 le) (blk o0 z) (blk o0 b) (hz0 _) (hb0 _) acc) $$ [H1 H2 HA HB HC Hacc]
  · unfold HeldBlk
    isplitl [H1]; · iexact H1
    isplitl [H2]; · iexact H2
    isplitl [HA]; · iexact HA
    isplitl [HB]; · iexact HB
    isplitl [HC]; · iexact HC
    iexact Hacc
  unfold HeldBlk
  iintro ⟨H1, H2, HA, HB, HC, Hacc⟩
  have hprev : InTable (inner t1 t2 (blk o0 le) (blk o0 z) (blk o0 b) acc 624).prev := by
    rw [inner_prev]; exact inTable_lanes (hb0 _) _
  iapply (wp_assume 𝒱₀ (thr d L) none Set.univ (fun a x => hprev a x))
  iapply (wp_scat_held d L accM _ _ _ _) $$ Hacc
  iintro Hacc
  -- refill the even buffers
  iapply (wp_issue3h d L le0M z0M b0M cc0_scratch9.sem qL le z b (k0_off5 L p) (k0_off5_inb L p) rfl rfl rfl _ _ _) $$ [Hsrc HA HB HC Hs0]
  · isplitl [Hsrc]; · iexact Hsrc
    isplitl [HA]; · iexact HA
    isplitl [HB]; · iexact HB
    isplitl [HC]; · iexact HC
    iexact Hs0
  iintro Hfl0
  -- the odd block arrives
  iapply (wp_wait3h d L le1M z1M b1M cc0_scratch10.sem qR le z b ![o1] rfl rfl rfl) $$ [Hfl HO]
  · isplitl [Hfl]; · iexact Hfl
    isplitr; · iexact Hmw
    iexact HO
  iintro ⟨Hsrc, HA, HB, HC, Hs1, HO⟩
  have e1 : (![o1] : Fin 1 → ℕ) 0 = o1 := rfl
  rw [e1]
  iapply (wp_load_held d L z1M _ (Rect.unit (s := S10000) ![0] S16.size inb_S10000_S16_0) (lanes 0 (blk o1 z)) (lanes_of_rect0 _)) $$ HB
  iintro HB
  iapply (wp_assume 𝒱₀ (thr d L) none Set.univ ⟨inSpecies_lanes (hz0 _) _, inSpecies_lanes (hz0 _) _⟩)
  iapply (wp_gat_held d L s1M t1 (lanes 0 (blk o1 z))) $$ H1
  iintro H1
  iapply (wp_gat_held d L s2M t2 (lanes 0 (blk o1 z))) $$ H2
  iintro H2
  iapply (wp_load_held d L le1M _ (Rect.unit (s := S10000) ![0] S16.size inb_S10000_S16_0) (lanes 0 (blk o1 le)) (lanes_of_rect0 _)) $$ HA
  iintro HA
  iapply (wp_load_held d L b1M _ (Rect.unit (s := S10000) ![0] S16.size inb_S10000_S16_0) (lanes 0 (blk o1 b)) (lanes_of_rect0 _)) $$ HC
  iintro HC
  iapply (wp_loop4 d L t1 t2 (blk o1 le) (blk o1 z) (blk o1 b) (hz0 _) (hb0 _) _) $$ [H1 H2 HA HB HC Hacc]
  · unfold HeldBlk
    isplitl [H1]; · iexact H1
    isplitl [H2]; · iexact H2
    isplitl [HA]; · iexact HA
    isplitl [HB]; · iexact HB
    isplitl [HC]; · iexact HC
    iexact Hacc
  unfold HeldBlk
  iintro ⟨H1, H2, HA, HB, HC, Hacc⟩
  have hprev1 : InTable (inner t1 t2 (blk o1 le) (blk o1 z) (blk o1 b)
      (blockAcc t1 t2 (blk o0 le) (blk o0 z) (blk o0 b) acc) 624).prev := by
    rw [inner_prev]; exact inTable_lanes (hb0 _) _
  iapply (wp_assume 𝒱₀ (thr d L) none Set.univ (fun a x => hprev1 a x))
  iapply (wp_scat_held d L accM _ _ _ _) $$ Hacc
  iintro Hacc
  -- refill the odd buffers
  iapply (wp_issue3h d L le1M z1M b1M cc0_scratch10.sem qR le z b (k0_off8 L p) (k0_off8_inb L p) rfl rfl rfl _ _ _) $$ [Hsrc HA HB HC Hs1]
  · isplitl [Hsrc]; · iexact Hsrc
    isplitl [HA]; · iexact HA
    isplitl [HB]; · iexact HB
    isplitl [HC]; · iexact HC
    iexact Hs1
  iintro Hfl1
  iapply (wp_wait3h d L le0M z0M b0M cc0_scratch9.sem qL le z b (k0_off5 L p) rfl rfl rfl) $$ [Hfl0 HO]
  · isplitl [Hfl0]; · iexact Hfl0
    isplitr; · iexact Hmw
    iexact HO
  iintro ⟨Hsrc, HA, HB, HC, Hs0, HO⟩
  rw [hoff5, hoff8]
  unfold wpT
  rw [wp_ret]
  imodintro
  isplitl [H1 H2 HA HB HC Hacc]
  · isplitl [H1]; · iexact H1
    isplitl [H2]; · iexact H2
    isplitl [HA]; · iexact HA
    isplitl [HB]; · iexact HB
    isplitl [HC]; · iexact HC
    iexact Hacc
  isplitl [Hsrc]; · iexact Hsrc
  isplitl [Hs0]; · iexact Hs0
  isplitl [Hfl1]; · iexact Hfl1
  isplitr; · iexact Hmw
  iexact HO

end Cert.Proof.Seg

end
-- ==== Proof.Row.lean ====
/-
  One tile's whole body: the tables fetched, its table zeroed, its twenty blocks summed, its row written out.
-/
module

public import proofs.«01_k».proof.Proof.Pair
public import Idealize.ShloMosaic.Lib.Writes

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (L : grid0.Coords)

/-- A whole buffer held through a memref on all of it. -/
theorem held_of_whole {s : Shape} {e : EltTy} (M : Memref sig .scVector .vmem s e) (hM : M.view.set = Finset.univ) (f : Buf (Elt F) (M.view.loc (thr d L))) :
    (M.view.loc (thr d L) ↦{fullShare} f) ⊢ (Held d L M (M.view.read (Elt F) f) : sProp 𝕄) := by
  unfold Held
  iintro H
  iexists f
  isplitr
  · ipureintro; rfl
  rw [hM]; iexact H

/-- And back. -/
theorem whole_of_held {s : Shape} {e : EltTy} (M : Memref sig .scVector .vmem s e) (hM : M.view.set = Finset.univ) (g : Vec F s e) :
    (Held d L M g : sProp 𝕄) ⊢ iprop(∃ f, ⌜M.view.read (Elt F) f = g⌝ ∗ M.view.loc (thr d L) ↦{fullShare} f) := by
  unfold Held
  rw [hM]

/-! ## Zeroing the tile's table -/

/-- Before trip `k` the first `16 k` entries are zero. -/
def zeroInv (k : ℕ) (_ : Unit) : sProp 𝕄 :=
  iprop(∃ g : Vec F S16384 .f32, ⌜∀ y, (y 0).val < 16 * k → g y = zeroT y⌝ ∗ Held d L accM g)

set_option maxHeartbeats 1000000 in
/-- One trip of the zeroing loop. -/
theorem trip1 (k : Fin k0_t1_loop.trips) (u : Unit) :
    zeroInv d L k.val u ⊢ wpT (F := F) d L (k0_t1_body L leM (Memref.isWhole_whole _) zM (Memref.isWhole_whole _) bM (Memref.isWhole_whole _) t1M (Memref.isWhole_whole _) t2M (Memref.isWhole_whole _) oM (Memref.isWhole_whole _) s1M (Memref.isWhole_whole _) s2M (Memref.isWhole_whole _) le0M (Memref.isWhole_whole _) le1M (Memref.isWhole_whole _) z0M (Memref.isWhole_whole _) z1M (Memref.isWhole_whole _) b0M (Memref.isWhole_whole _) b1M (Memref.isWhole_whole _) accM (Memref.isWhole_whole _) cc0_scratch9 cc0_scratch10 cc0_scoped0 cc0_scoped1 cc0_scoped2 k u) (zeroInv d L (k.val + 1)) := by
  unfold zeroInv k0_t1_body
  iintro ⟨%g, %hg, H⟩
  simp only [Prog.lift, Prog.bind_op, Prog.bind_ret, Prog.pure_eq_ret]
  iapply (wp_load_held d L accM g (Rect.unit (s := S16384) (k0_off1 k) S16.size (k0_off1_inb k)) _ (fun x => rfl)) $$ H
  iintro H
  have ho : k0_off1 k 0 = 16 * k.val := by rw [k0_off1_eq]; rfl
  have hk : k.val < 1024 := lt_of_lt_of_le k.isLt (by decide)
  iapply (wp_store_held d L accM g (Rect.unit (s := S16384) (k0_off1 k) S16.size (k0_off1_inb k)) (k0_pay7 (F := F))
    (fun y => if 16 * k.val ≤ (y 0).val ∧ (y 0).val < 16 * k.val + 16 then zeroT y else g y) ?_ ?_) $$ H
  · intro x
    have hx : (x 0).val < 16 := idx_lt x
    have hv : ((Rect.unit (s := S16384) (k0_off1 k) S16.size (k0_off1_inb k)).emb x 0).val = 16 * k.val + (x 0).val := by
      show k0_off1 k 0 + 1 * (x 0).val = _
      rw [ho]; omega
    rw [if_pos (by rw [hv]; omega)]
    rfl
  · intro y hy
    refine if_neg fun h => hy (Finset.mem_map.mpr ⟨ix1 ((y 0).val - 16 * k.val) (by omega), Finset.mem_univ _, ?_⟩)
    refine idx_ext ?_
    show k0_off1 k 0 + 1 * ((y 0).val - 16 * k.val) = (y 0).val
    rw [ho]; omega
  iintro H
  unfold wpT
  rw [wp_ret]
  imodintro
  iexists _
  isplitr
  swap; · iexact H
  ipureintro
  intro y hy
  by_cases h : 16 * k.val ≤ (y 0).val ∧ (y 0).val < 16 * k.val + 16
  · simp only [if_pos h]
  · simp only [if_neg h]; exact hg y (by omega)

/-! ## The tile's row of the result -/

/-- The rows divide the array of partial sums. -/
theorem odiv : 32 ∣ S32x16384.size 0 := ⟨1, rfl⟩
/-- Row `w` of the thirty-two. -/
abbrev orow (w : Fin 32) : Rect S32x16384 := Rect.part (s := S32x16384) (a₀ := 0) odiv w
abbrev oRowSet (w : Fin 32) : Finset S32x16384.Idx := (orow w).set
abbrev widF (L : grid0.Coords) : Fin 32 := ⟨wid L, wid_lt L⟩

abbrev orowK (L : grid0.Coords) : Rect S32x16384 := Rect.unit (s := S32x16384) (k0_off9 L) S1x16384.size (k0_off9_inb L)
/-- The tile's row as the tile addresses it. -/
abbrev oRowK (L : grid0.Coords) : Memref sig .scVector .hbm S16384 .f32 := ((oM).slice (orowK L) (fun _ => rfl)).squeeze S16384 squeezes_S1x16384_S16384

/-- The row a tile copies to is the row of its number. -/
theorem orowK_eq : orowK L = orow (widF L) := by
  unfold orowK orow Rect.part Rect.block
  congr 1 <;> funext a
  · rw [k0_off9_eq]
    match a with
    | 0 => simp [Shape.partIx, Shape.partSize]
    | 1 => simp [Shape.partIx, Shape.partSize]
  · match a with
    | 0 => simp [Shape.partSize]
    | 1 => simp [Shape.partSize]

/-- The elements of that row. -/
theorem set_oRowK : (oRowK L).view.set = oRowSet (widF L) := by
  show (((oM).view.slice (orowK L)).reshape S16384 squeezes_S1x16384_S16384.numel_eq).set = (orow (widF L)).set
  rw [View.set_reshape, View.set_slice]
  exact Finset.map_refl.trans (orowK_eq L ▸ rfl)

/-- Where element `x` of the tile's row lies. -/
theorem emb_oRowK (x : S16384.Idx) : (((oRowK L).view.emb x) 0).val = wid L ∧ (((oRowK L).view.emb x) 1).val = (x 0).val := by
  have h0 : (Shape.reshapeEquiv squeezes_S1x16384_S16384.numel_eq x : S1x16384.Idx) = fun | 0 => ⟨0, by decide⟩ | 1 => ⟨(x 0).val, idx_lt x⟩ := by
    refine Shape.reshapeEquiv_eq_of_rowMajor _ ?_
    rw [Shape.rowMajor_val_one, Shape.rowMajor_val_two]
    show 0 * 16384 + (x 0).val = (x 0).val
    omega
  constructor
  · show k0_off9 L 0 + 1 * ((Shape.reshapeEquiv squeezes_S1x16384_S16384.numel_eq x : S1x16384.Idx) 0).val = wid L
    rw [h0, k0_off9_eq]
    show 2 * (L 1).val + (L 0).val + 1 * 0 = 2 * (L 1).val + (L 0).val
    omega
  · show k0_off9 L 1 + 1 * ((Shape.reshapeEquiv squeezes_S1x16384_S16384.numel_eq x : S1x16384.Idx) 1).val = _
    rw [h0, k0_off9_eq]
    show 0 + 1 * (x 0).val = _
    omega

/-- The row written with the tile's result is the tile's row of the results. -/
theorem row_written (t1 t2 : Vec F S128 .f32) (le : Vec F S6400000 .f32) (z b : Vec F S6400000 .i32) (f : Buf (Elt F) (oLoc d))
    (w : Vec F S16384 .f32) (hw : w = outTile t1 t2 le z b (wid L)) :
    ((oRowK L).view.loc (thr d L) ↦[(oRowK L).view.set]{fullShare} (oRowK L).view.writes (Elt F) f [⟨Rect.whole S16384, w⟩] : sProp 𝕄)
      = oLoc d ↦[oRowSet (widF L)]{fullShare} parts t1 t2 le z b := by
  subst hw
  rw [← set_oRowK]
  refine pointsTo_congr fun y hy => ?_
  obtain ⟨x, -, rfl⟩ := Finset.mem_map.mp hy
  have hx : (oRowK L).view.emb x = ((oRowK L).view.slice (Rect.whole S16384)).emb x := by
    show _ = (oRowK L).view.emb ((Rect.whole S16384).emb x)
    rw [Rect.emb_whole_apply]
  show ((oRowK L).view.slice (Rect.whole S16384)).write (Elt F) f (outTile t1 t2 le z b (wid L)) Finset.univ ((oRowK L).view.emb x) = _
  have hv := View.write_emb_of_mem (v := (oRowK L).view.slice (Rect.whole S16384)) (Val := Elt F) f (outTile t1 t2 le z b (wid L)) (M := Finset.univ) (x := x) (Finset.mem_univ _)
  rw [← hx] at hv
  refine hv.trans ?_
  obtain ⟨e0, e1⟩ := emb_oRowK L x
  show outTile t1 t2 le z b (wid L) x = outTile t1 t2 le z b (((oRowK L).view.emb x) 0).val (ix1 (((oRowK L).view.emb x) 1).val _)
  rw [e0]
  exact congrArg _ (idx_ext e1.symm)

end Cert.Proof.Seg

end
-- ==== Proof.Tile.lean ====
/-
  One tile's whole body: the tables fetched, its table zeroed, its twenty blocks summed, its row written out.
-/
module

public import proofs.«01_k».proof.Proof.Row

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay ownBufs ownRefs mem_ownCells ownCells ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (d : Dev nD) (L : grid0.Coords)

/-! ## The tile's own buffers and semaphores, named -/

/-- The tile's scratch buffers. -/
abbrev bufs : Finset (Ref sig .scVector) :=
  {cc0_scratch0, cc0_scratch1, cc0_scratch2, cc0_scratch3, cc0_scratch4, cc0_scratch5, cc0_scratch6, cc0_scratch7, cc0_scratch8}
/-- The tile's semaphores. -/
abbrev sems : Finset (SemLoc sig) :=
  {.dma cc0_scratch9.sem, .dma cc0_scratch10.sem, .dma cc0_scoped0.sem, .dma cc0_scoped1.sem, .dma cc0_scoped2.sem}

/-- One scratch buffer at some contents. -/
abbrev sPts (r : Ref sig .scVector) : sProp 𝕄 := iprop(∃ f, (thr d L).loc r ↦{fullShare} f)

/-- A family split into the members named by a one-to-one function, and the rest. -/
theorem named_and_rest {I J : Type} [DecidableEq I] [DecidableEq J] {s : Finset I} (t : Finset J) (f : J → I) (hf : Set.InjOn f t)
    (hs : ∀ j ∈ t, f j ∈ s) (Φ : I → sProp 𝕄) :
    bigSep s Φ = iprop(bigSep t (fun j => Φ (f j)) ∗ bigSep (s \ t.image f) Φ) := by
  rw [SparseCore.bigSep_sdiff_split' (Finset.image_subset_iff.mpr hs), SparseCore.bigSep_image_of_injOn hf]

/-- The tile's own buffers: its nine scratch buffers, and the rest. -/
theorem ownBufs_V :
    (ownBufs (thr d L) : sProp 𝕄)
      = iprop((sPts d L cc0_scratch0 ∗ sPts d L cc0_scratch1 ∗ sPts d L cc0_scratch2 ∗ sPts d L cc0_scratch3 ∗ sPts d L cc0_scratch4
          ∗ sPts d L cc0_scratch5 ∗ sPts d L cc0_scratch6 ∗ sPts d L cc0_scratch7 ∗ sPts d L cc0_scratch8)
          ∗ bigSep (ownRefs (thr d L).2 \ bufs.image (thr d L).2.devRef) fun b => iprop(∃ f, ((d, b) : Loc nD τ sig) ↦{fullShare} f)) := by
  unfold SparseCore.Cfg.ownBufs
  rw [named_and_rest (s := ownRefs (thr d L).2) bufs (thr d L).2.devRef (fun _ _ _ _ h => Proc.devRef_injective _ h)
    (fun r hr => SparseCore.Cfg.mem_ownRefs_of_owner (by
      revert r; intro r hr; simp only [bufs, Finset.mem_insert, Finset.mem_singleton] at hr
      rcases hr with rfl | rfl | rfl | rfl | rfl | rfl | rfl | rfl | rfl <;> rfl))]
  congr 1
  unfold bufs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- A semaphore of the tile's at zero. -/
abbrev sv (s : SemLoc sig) : sProp 𝕄 := semVal (thr d L, s) 0

/-- The tile's own semaphores: its five, and the rest. -/
theorem ownSems0_V :
    (ownSems0 (thr d L) : sProp 𝕄)
      = iprop((sv d L (.dma cc0_scratch9.sem) ∗ sv d L (.dma cc0_scratch10.sem) ∗ sv d L (.dma cc0_scoped0.sem) ∗ sv d L (.dma cc0_scoped1.sem) ∗ sv d L (.dma cc0_scoped2.sem))
          ∗ bigSep (ownCells (thr d L) \ sems.image (fun s => ((thr d L, s) : GSem nD τ sig))) fun g => semVal g 0) := by
  unfold SparseCore.Cfg.ownSems0
  rw [named_and_rest (s := ownCells (thr d L)) sems (fun s => ((thr d L, s) : GSem nD τ sig)) (fun _ _ _ _ h => (Prod.mk.inj h).2)
    (fun s hs => mem_ownCells.mpr ⟨rfl, by
      show s.isScoped .scVector = true
      revert hs; revert s; decide⟩)]
  congr 1
  unfold sems
  rw [SparseCore.bigSep_insert' (by decide), SparseCore.bigSep_insert' (by decide), SparseCore.bigSep_insert' (by decide), SparseCore.bigSep_insert' (by decide),
    bigSep_singleton]

/-! ## The body -/

/-- What a tile is given: shares of the five inputs, its row of the result. -/
def goT (q : PosShare TreeShare) (t1 t2 : Vec F S128 .f32) (le : Vec F S6400000 .f32) (z b : Vec F S6400000 .i32) (w : Fin 32) (o : Buf (Elt F) (oLoc d)) : sProp 𝕄 :=
  iprop(((leLoc d ↦{q} le) ∗ (zLoc d ↦{q} z) ∗ (bLoc d ↦{q} b) ∗ (t1Loc d ↦{q} t1) ∗ (t2Loc d ↦{q} t2)) ∗ oLoc d ↦[oRowSet w]{fullShare} o)

set_option maxHeartbeats 8000000 in
/-- A tile's whole body: given shares of the inputs and its row, it leaves its result in its row. -/
theorem tile_body (hF : (K (F := F)).Facts) (q : PosShare TreeShare) (t1 t2 : Vec F S128 .f32) (le : Vec F S6400000 .f32) (z b : Vec F S6400000 .i32)
    (hz : ∀ i, (z i : BitVec 32).toNat < 119) (hb : ∀ i, (b i : BitVec 32).toNat < 16384) (o : Buf (Elt F) (oLoc d))
    (O : CellTallies nD τ sig (HIx 1)) (W : Waits sig (HIx 1)) (hO : ∀ g, O g none = 0) :
    iprop(levAts (K (F := F)).L (K (F := F)).lev ∗ emp ∗ goT d q t1 t2 le z b (widF L) o
        ∗ scopedBufs (thr d L) ∗ scopedSems0 (thr d L) ∗ owes (thr d L) O W)
      ⊢ wp frame (wpE (defs₀ (F := F)) 𝒱₀ (thr d L) none) Set.univ
          (cc0__sc_partial_sums L leM (Memref.isWhole_whole _) zM (Memref.isWhole_whole _) bM (Memref.isWhole_whole _) t1M (Memref.isWhole_whole _) t2M (Memref.isWhole_whole _) oM (Memref.isWhole_whole _) s1M (Memref.isWhole_whole _) s2M (Memref.isWhole_whole _) le0M (Memref.isWhole_whole _) le1M (Memref.isWhole_whole _) z0M (Memref.isWhole_whole _) z1M (Memref.isWhole_whole _) b0M (Memref.isWhole_whole _) b1M (Memref.isWhole_whole _) accM (Memref.isWhole_whole _) cc0_scratch9 cc0_scratch10 cc0_scoped0 cc0_scoped1 cc0_scoped2)
          fun _ => iprop(goT d q t1 t2 le z b (widF L) (parts t1 t2 le z b)
            ∗ scopedBufs (thr d L) ∗ scopedSems0 (thr d L)
            ∗ ∃ W', ⌜∀ p ∈ W', p ∈ W ∨ p.2 = none⌝ ∗ owes (thr d L) O W') := by
  simp only [cc0__sc_partial_sums_eq_skeleton]; unfold cc0__sc_partial_sums_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  unfold goT
  iintro ⟨#Hlv, -, ⟨⟨Hle, Hz, Hb, Ht1, Ht2⟩, Ho⟩, ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hbufs⟩,
    ⟨⟨HsA, HsB, Hs0, Hs1, Hs2⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Ht1' := (Entails.of_eq (show (t1Loc d ↦{q} t1 : sProp 𝕄) = (t1M).view.loc (thr d L) ↦{q} t1 from rfl)) $$ Ht1
  ihave Ht2' := (Entails.of_eq (show (t2Loc d ↦{q} t2 : sProp 𝕄) = (t2M).view.loc (thr d L) ↦{q} t2 from rfl)) $$ Ht2
  ihave H0' := (Entails.of_eq (show ((thr d L).loc cc0_scratch0 ↦{fullShare} f0 : sProp 𝕄) = (s1M).view.loc (thr d L) ↦{fullShare} f0 from rfl)) $$ H0
  ihave H1' := (Entails.of_eq (show ((thr d L).loc cc0_scratch1 ↦{fullShare} f1 : sProp 𝕄) = (s2M).view.loc (thr d L) ↦{fullShare} f1 from rfl)) $$ H1
  sl_exec
  ihave H0' := (held_of_whole d L s1M (View.set_whole _) _) $$ H0'
  ihave H1' := (held_of_whole d L s2M (View.set_whole _) _) $$ H1'
  rw [View.read_write_univ, View.read_write_univ, show tile_body.sl.dma0 t1 = t1 from rfl, show tile_body.sl.dma0_1 t2 = t2 from rfl]
  simp only [Prog.lift, Prog.bind_op, Prog.bind_ret, Prog.pure_eq_ret, Prog.bind_assoc]
  -- the tile's table zeroed
  ihave H8 := (held_of_whole d L accM (View.set_whole _) f8) $$ H8
  iapply (Scf.wp_for_bind _ _ _ _ _ _ _ _ _ (zeroInv (F := F) d L) (fun k u => trip1 d L k u)) $$ [H8]
  · unfold zeroInv
    iexists _
    isplitr
    swap; · iexact H8
    ipureintro; intro y hy; exact absurd hy (by omega)
  iintro %u HI
  have ht1 : Scf.trips k0_t1_loop.lb k0_t1_loop.ub k0_t1_loop.st = 1024 := by decide
  rw [ht1]
  unfold zeroInv
  icases HI with ⟨%g, %hg, Hacc⟩
  have hgz : g = zeroT := funext fun y => hg y (lt_of_lt_of_eq (idx_lt y) (by decide))
  subst hgz
  -- the sources' shares halved: one for the even buffers, one for the odd
  ihave Hle2 := (pointsTo_share (ℓ := leLoc d) (I := Finset.univ) (f := le) (PosShare.mem_left_op_right q)).1 $$ Hle
  icases Hle2 with ⟨HleL, HleR⟩
  ihave Hz2 := (pointsTo_share (ℓ := zLoc d) (I := Finset.univ) (f := z) (PosShare.mem_left_op_right q)).1 $$ Hz
  icases Hz2 with ⟨HzL, HzR⟩
  ihave Hb2 := (pointsTo_share (ℓ := bLoc d) (I := Finset.univ) (f := b) (PosShare.mem_left_op_right q)).1 $$ Hb
  icases Hb2 with ⟨HbL, HbR⟩
  ihave H2 := (held_of_whole d L le0M (View.set_whole _) f2) $$ H2
  ihave H3 := (held_of_whole d L le1M (View.set_whole _) f3) $$ H3
  ihave H4 := (held_of_whole d L z0M (View.set_whole _) f4) $$ H4
  ihave H5 := (held_of_whole d L z1M (View.set_whole _) f5) $$ H5
  ihave H6 := (held_of_whole d L b0M (View.set_whole _) f6) $$ H6
  ihave H7 := (held_of_whole d L b1M (View.set_whole _) f7) $$ H7
  -- the first two blocks
  iapply (wp_issue3h d L le0M z0M b0M cc0_scratch9.sem q.left le z b (k0_off2 L 0#32) (k0_off2_inb L 0) rfl rfl rfl _ _ _) $$ [HleL HzL HbL H2 H4 H6 HsA]
  · unfold Src
    isplitl [HleL HzL HbL]
    · isplitl [HleL]; · iexact HleL
      isplitl [HzL]; · iexact HzL
      iexact HbL
    isplitl [H2]; · iexact H2
    isplitl [H4]; · iexact H4
    isplitl [H6]; · iexact H6
    iexact HsA
  iintro Hfl0
  iapply (wp_issue3h d L le1M z1M b1M cc0_scratch10.sem q.right le z b (k0_off2 L 10000#32) (k0_off2_inb L 1) rfl rfl rfl _ _ _) $$ [HleR HzR HbR H3 H5 H7 HsB]
  · unfold Src
    isplitl [HleR HzR HbR]
    · isplitl [HleR]; · iexact HleR
      isplitl [HzR]; · iexact HzR
      iexact HbR
    isplitl [H3]; · iexact H3
    isplitl [H5]; · iexact H5
    isplitl [H7]; · iexact H7
    iexact HsB
  iintro Hfl1
  iapply (wp_wait3h d L le0M z0M b0M cc0_scratch9.sem q.left le z b (k0_off2 L 0#32) rfl rfl rfl (O := O) (W := W)) $$ [Hfl0 HO]
  · isplitl [Hfl0]; · iexact Hfl0
    isplitr; · iexact Hmw
    unfold Owed
    iexists _
    isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro ⟨Hsrc, HA, HB, HC, HsA, HO⟩
  have hw := wid_lt L
  have hwid : wid L = 2 * (L 1).val + (L 0).val := rfl
  have hoff0 : k0_off2 L 0#32 0 = eo (wid L) 0 := by
    have h : k0_off2 L 0#32 = ![400000 * (L 1).val + 200000 * (L 0).val + 10000 * 0] := k0_off2_eq L 0
    rw [h]
    exact (Nat.min_eq_left (by omega) |>.trans (by rw [hwid]; show _ = 400000 * (L 1).val + 200000 * (L 0).val + 10000 * 0; omega)).symm
  have hoff1 : k0_off2 L 10000#32 = ![oo (wid L) 0] := by
    have h : k0_off2 L 10000#32 = ![400000 * (L 1).val + 200000 * (L 0).val + 10000 * 1] := k0_off2_eq L 1
    rw [h]
    have h2 : oo (wid L) 0 = 400000 * (L 1).val + 200000 * (L 0).val + 10000 * 1 := by
      unfold oo; exact Nat.min_eq_left (by omega) |>.trans (by rw [hwid]; omega)
    rw [h2]
  rw [hoff0, hoff1]
  -- the main loop
  iapply (Scf.wp_for_bind _ _ _ _ _ _ _ _ _ (fun p (_ : Unit) => pairInv (F := F) d L q.left q.right t1 t2 le z b O W p)
    (fun p u => trip2 d L _ _ p u q.left q.right t1 t2 le z b hz hb O W)) $$ [H0' H1' HA HB HC Hacc Hsrc HsA Hfl1 HO]
  · unfold pairInv HeldBlk
    isplitl [H0' H1' HA HB HC Hacc]
    · isplitl [H0']; · iexact H0'
      isplitl [H1']; · iexact H1'
      isplitl [HA]; · iexact HA
      isplitl [HB]; · iexact HB
      isplitl [HC]; · iexact HC
      iexact Hacc
    isplitl [Hsrc]; · iexact Hsrc
    isplitl [HsA]; · iexact HsA
    isplitl [Hfl1]; · iexact Hfl1
    isplitr; · iexact Hmw
    iexact HO
  iintro %u' HI
  have ht2 : Scf.trips k0_t2_loop.lb k0_t2_loop.ub k0_t2_loop.st = 10 := by decide
  rw [ht2]
  unfold pairInv HeldBlk
  icases HI with ⟨⟨H0, H1, H2, H4, H6, Hacc⟩, Hsrc, HsA, Hfl, -, HO⟩
  iapply (wp_wait3h d L le1M z1M b1M cc0_scratch10.sem q.right le z b _ rfl rfl rfl (O := O) (W := W)) $$ [Hfl HO]
  · isplitl [Hfl]; · iexact Hfl
    isplitr; · iexact Hmw
    iexact HO
  iintro ⟨HsrcR, H3, H5, H7, HsB, HO⟩
  unfold Src Owed
  icases HO with ⟨%W', %hW', HO⟩
  icases Hsrc with ⟨HleL, HzL, HbL⟩
  icases HsrcR with ⟨HleR, HzR, HbR⟩
  ihave Hle := (pointsTo_share (ℓ := leLoc d) (I := Finset.univ) (f := le) (PosShare.mem_left_op_right q)).2 $$ [HleL HleR]
  · isplitl [HleL]; · iexact HleL
    iexact HleR
  ihave Hz := (pointsTo_share (ℓ := zLoc d) (I := Finset.univ) (f := z) (PosShare.mem_left_op_right q)).2 $$ [HzL HzR]
  · isplitl [HzL]; · iexact HzL
    iexact HzR
  ihave Hb := (pointsTo_share (ℓ := bLoc d) (I := Finset.univ) (f := b) (PosShare.mem_left_op_right q)).2 $$ [HbL HbR]
  · isplitl [HbL]; · iexact HbL
    iexact HbR
  -- the tile's row written out
  ihave Hacc' := (whole_of_held d L accM (View.set_whole _) _) $$ Hacc
  icases Hacc' with ⟨%fa, %hfa, Hacc⟩
  ihave Ho' := (Entails.of_eq (show (oLoc d ↦[oRowSet (widF L)]{fullShare} o : sProp 𝕄)
    = (oRowK L).view.loc (thr d L) ↦[(oRowK L).view.set]{fullShare} o by rw [set_oRowK])) $$ Ho
  unfold wpT
  sl_exec
  rw [wp_ret]
  imodintro
  ihave Ho := (Entails.of_eq (row_written d L t1 t2 le z b o (tile_body.sl.dma0_2 fa) (show (tile_body.sl.dma0_2 fa) = _ from hfa))) $$ Ho'
  ihave H0 := (whole_of_held d L s1M (View.set_whole _) _) $$ H0
  ihave H1 := (whole_of_held d L s2M (View.set_whole _) _) $$ H1
  ihave H2 := (whole_of_held d L le0M (View.set_whole _) _) $$ H2
  ihave H3 := (whole_of_held d L le1M (View.set_whole _) _) $$ H3
  ihave H4 := (whole_of_held d L z0M (View.set_whole _) _) $$ H4
  ihave H5 := (whole_of_held d L z1M (View.set_whole _) _) $$ H5
  ihave H6 := (whole_of_held d L b0M (View.set_whole _) _) $$ H6
  ihave H7 := (whole_of_held d L b1M (View.set_whole _) _) $$ H7
  icases H0 with ⟨%g0, -, H0⟩
  icases H1 with ⟨%g1, -, H1⟩
  icases H2 with ⟨%g2, -, H2⟩
  icases H3 with ⟨%g3, -, H3⟩
  icases H4 with ⟨%g4, -, H4⟩
  icases H5 with ⟨%g5, -, H5⟩
  icases H6 with ⟨%g6, -, H6⟩
  icases H7 with ⟨%g7, -, H7⟩
  isplitl [Hle Hz Hb Ht1' Ht2' Ho]
  · isplitr [Ho]
    · isplitl [Hle]; · iexact Hle
      isplitl [Hz]; · iexact Hz
      isplitl [Hb]; · iexact Hb
      isplitl [Ht1']; · iexact Ht1'
      iexact Ht2'
    iexact Ho
  isplitl [H0 H1 H2 H3 H4 H5 H6 H7 Hacc Hbufs]
  · isplitr [Hbufs]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      iexists _; iexact Hacc
    iexact Hbufs
  isplitl [HsA HsB Hs0 Hs1 Hs2 Hsems]
  · isplitr [Hsems]
    · isplitl [HsA]; · iexact HsA
      isplitl [HsB]; · iexact HsB
      isplitl [Hs0]; · iexact Hs0
      isplitl [Hs1]; · iexact Hs1
      iexact Hs2
    iexact Hsems
  iexists _; isplitr
  swap; · iexact HO
  ipureintro; intro p hp
  rcases Finset.mem_insert.mp hp with hp | hp; · exact .inr (hp ▸ rfl)
  exact hW' p hp

end Cert.Proof.Seg

end
-- ==== Proof.Deal.lean ====
/-
  How the launch deals the arrays out: each SparseCore takes a share of the five inputs and sixteen rows of the result, each tile a
  smaller share and its own row; and how the rows and shares come back together.
-/
module

public import proofs.«01_k».proof.Proof.Tile
public import Idealize.ShloMosaic.Lib.ShareLeaves

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The launch has sixteen tiles on each SparseCore. -/
theorem nSub_zero : (K (F := F)).nSub 0 = 16 := rfl
/-- The launch has two SparseCores. -/
theorem nCore_zero : (K (F := F)).nCore 0 = 2 := rfl

/-! ## The lookup tables -/

/-- A species table of 119 entries at the head of a row of 128 zeros, as the program builds it. -/
def tab (x : Vec F S119 .f32) : Vec F S128 .f32 :=
  Host.scatter scatter_S128_S1_S119_0_n_0_0 (fun _ b => b)
    (broadcastInDim S128 ![] bcast_S_S128 (constant (F := F) S_ .f32 0x00000000#32))
    (broadcastInDim S1 ![] bcast_S_S1 (constantI S_ 32 0#32)) x

/-! ## The coordinates of a tile -/

def coordsV (c : Fin (grid0.bound 0)) (s : Fin (grid0.bound 1)) : grid0.Coords :=
  fun | 0 => c | 1 => s | ⟨_ + 2, h⟩ => absurd h (Nat.not_lt.2 (Nat.le_add_left _ _))

/-- The row of SparseCore `c`'s tile `i`. -/
abbrev rowOf (c : Fin 2) (i : Fin 16) : Fin 32 := widF (coordsV c i)

/-- The number of a tile's row. -/
theorem rowOf_val (c : Fin 2) (i : Fin 16) : (rowOf c i).val = 2 * i.val + c.val := rfl

/-- Every row is one tile's. -/
def rowEquiv : Fin 2 × Fin 16 ≃ Fin 32 where
  toFun p := rowOf p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (show 2 * (w.val / 2) + w.val % 2 = w.val by omega)

/-! ## Rows and shares -/

/-- Different tiles' rows share no element. -/
theorem orows_disjoint : ∀ i ∈ (Finset.univ : Finset (Fin 32)), ∀ j ∈ (Finset.univ : Finset (Fin 32)), i ≠ j → Disjoint (oRowSet i) (oRowSet j) :=
  fun _ _ _ _ h => Rect.part_disjoint odiv h

/-- The tiles' rows are the whole array of partial sums. -/
theorem orows_cover : (Finset.univ : Finset (Fin 32)).biUnion oRowSet = Finset.univ := Rect.biUnion_part odiv

/-- The result's array is its rows, dealt out by SparseCore and tile. -/
theorem oPts_rows (d : Dev nD) (f : Buf (Elt F) (oLoc d)) :
    (oLoc d ↦{fullShare} f : sProp 𝕄)
      = bigSep Finset.univ fun c : Fin 2 => bigSep Finset.univ fun i : Fin 16 => oLoc d ↦[oRowSet (rowOf c i)]{fullShare} f := by
  have h : (oLoc d ↦{fullShare} f : sProp 𝕄) = bigSep Finset.univ fun w : Fin 32 => oLoc d ↦[oRowSet w]{fullShare} f := by
    rw [← pointsTo_biUnion Finset.univ (ℓ := oLoc d) oRowSet orows_disjoint, orows_cover]
    try rfl
  rw [h, bigSep_univ_equiv rowEquiv, bigSep_univ_prod]
  rfl

/-- The five inputs at share `q`. -/
def ins (d : Dev nD) (q : PosShare TreeShare) (t1 t2 : Vec F S128 .f32) (le : Vec F S6400000 .f32) (z b : Vec F S6400000 .i32) : sProp 𝕄 :=
  iprop((leLoc d ↦{q} le) ∗ (zLoc d ↦{q} z) ∗ (bLoc d ↦{q} b) ∗ (t1Loc d ↦{q} t1) ∗ (t2Loc d ↦{q} t2))

/-- The inputs at a share are the inputs at its leaves. -/
theorem ins_leaves (d : Dev nD) (n : ℕ) (q : PosShare TreeShare) (t1 t2 : Vec F S128 .f32) (le : Vec F S6400000 .f32) (z b : Vec F S6400000 .i32) :
    (ins d q t1 t2 le z b : sProp 𝕄) = bigSep Finset.univ fun i : Fin (2 ^ n) => ins d (ShareLeaves.leaf n q i) t1 t2 le z b := by
  unfold ins
  rw [bigSep_sep', bigSep_sep', bigSep_sep', bigSep_sep', ← ShareLeaves.pointsTo_leaves, ← ShareLeaves.pointsTo_leaves,
    ← ShareLeaves.pointsTo_leaves, ← ShareLeaves.pointsTo_leaves, ← ShareLeaves.pointsTo_leaves]

/-- SparseCore `c`'s share of the inputs, and its tile `i`'s. -/
def coreShare (c : Fin 2) : PosShare TreeShare := ShareLeaves.leaf 1 fullShare c
def tileShare (c : Fin 2) (i : Fin 16) : PosShare TreeShare := ShareLeaves.leaf 4 (coreShare c) i

/-- What a SparseCore is given: a share of the inputs, its tiles' rows of the result. -/
def coreT (d : Dev nD) (c : Fin 2) (t1 t2 : Vec F S128 .f32) (le : Vec F S6400000 .f32) (z b : Vec F S6400000 .i32) (o : Buf (Elt F) (oLoc d)) : sProp 𝕄 :=
  iprop(ins d (coreShare c) t1 t2 le z b ∗ bigSep Finset.univ fun i : Fin 16 => oLoc d ↦[oRowSet (rowOf c i)]{fullShare} o)

/-- A SparseCore's share is its tiles'. -/
theorem coreT_tiles (d : Dev nD) (c : Fin 2) (t1 t2 : Vec F S128 .f32) (le : Vec F S6400000 .f32) (z b : Vec F S6400000 .i32) (o : Buf (Elt F) (oLoc d)) :
    (coreT d c t1 t2 le z b o : sProp 𝕄)
      = bigSep Finset.univ fun i : Fin 16 => goT d (tileShare c i) t1 t2 le z b (rowOf c i) o := by
  unfold coreT
  rw [ins_leaves d 4, ← bigSep_sep']
  rfl

/-- The inputs and the result's array are the SparseCores'. -/
theorem all_cores (d : Dev nD) (t1 t2 : Vec F S128 .f32) (le : Vec F S6400000 .f32) (z b : Vec F S6400000 .i32) (o : Buf (Elt F) (oLoc d)) :
    (iprop(ins d fullShare t1 t2 le z b ∗ oLoc d ↦{fullShare} o) : sProp 𝕄)
      = bigSep Finset.univ fun c : Fin 2 => coreT d c t1 t2 le z b o := by
  unfold coreT
  rw [bigSep_sep', oPts_rows, ins_leaves d 1]
  rfl

/-! ## The launch's payloads -/

variable (m : (ℓ : Loc nD τ sig) → Buf (Elt F) ℓ)

abbrev scLoc (d : Dev nD) : Loc nD τ sig := (SparseCore.T d).loc main_arg3
abbrev shLoc (d : Dev nD) : Loc nD τ sig := (SparseCore.T d).loc main_arg4

/-- The tables, the energies, the species and the structures, at the launch. -/
abbrev t1Of (d : Dev nD) : Vec F S128 .f32 := tab (m (scLoc d))
abbrev t2Of (d : Dev nD) : Vec F S128 .f32 := tab (m (shLoc d))
abbrev partsOf (d : Dev nD) : Vec F S32x16384 .f32 := parts (t1Of m d) (t2Of m d) (m (leLoc d)) (m (zLoc d)) (m (bLoc d))

abbrev coreP (d : Dev nD) (c : Fin 2) (o : Buf (Elt F) (oLoc d)) : sProp 𝕄 :=
  coreT d c (t1Of m d) (t2Of m d) (m (leLoc d)) (m (zLoc d)) (m (bLoc d)) o
abbrev tileP (d : Dev nD) (c : Fin 2) (i : Fin 16) (o : Buf (Elt F) (oLoc d)) : sProp 𝕄 :=
  goT d (tileShare c i) (t1Of m d) (t2Of m d) (m (leLoc d)) (m (zLoc d)) (m (bLoc d)) (rowOf c i) o

/-- What the call hands out and takes back. -/
def P : (K (F := F)).Pay (nD := nD) (Val := Elt F) (Name := ℕ) (U := UU) where
  st := fun q d c => match q with | 0 => coreP m d (Fin.cast nCore_zero c) (m (oLoc d))
  dn := fun q d c => match q with | 0 => coreP m d (Fin.cast nCore_zero c) (partsOf m d)
  go := fun q d c i => match q with | 0 => tileP m d (Fin.cast nCore_zero c) (Fin.cast nSub_zero i) (m (oLoc d))
  td := fun q d c i => match q with | 0 => tileP m d (Fin.cast nCore_zero c) (Fin.cast nSub_zero i) (partsOf m d)
  x := fun _ _ => iprop(emp)

instance goT_storable (d : Dev nD) (q : PosShare TreeShare) (t1 t2 : Vec F S128 .f32) (le : Vec F S6400000 .f32) (z b : Vec F S6400000 .i32) (w : Fin 32) (o : Buf (Elt F) (oLoc d)) :
    BI.Storable (upEmb : UEmb _ 𝕄) (goT d q t1 t2 le z b w o) := by unfold goT; infer_instance
instance coreT_storable (d : Dev nD) (c : Fin 2) (t1 t2 : Vec F S128 .f32) (le : Vec F S6400000 .f32) (z b : Vec F S6400000 .i32) (o : Buf (Elt F) (oLoc d)) :
    BI.Storable (upEmb : UEmb _ 𝕄) (coreT d c t1 t2 le z b o) := by unfold coreT ins; infer_instance

instance P_storable : (P (F := F) m).IsStorable where
  st q d c := match q with
    | 0 => coreT_storable ..
  dn q d c := match q with
    | 0 => coreT_storable ..
  go q d c i := match q with
    | 0 => goT_storable ..
  td q d c i := match q with
    | 0 => goT_storable ..

/-- The launch's inputs lie in their ranges: the species below 119, the structures below 16384. -/
def PreOK : Prop := ∀ d : Dev nD, (∀ i, ((m (zLoc d) : Vec F S6400000 .i32) i : BitVec 32).toNat < 119) ∧ ∀ i, ((m (bLoc d) : Vec F S6400000 .i32) i : BitVec 32).toNat < 16384

/-! ## The call's obligations -/

/-- A separating product over a SparseCore's tiles, over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A separating product over the SparseCores, over two. -/
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's share splits into its tiles' shares, and the tiles' results join to the SparseCore's. -/
theorem vecSplit : (K (F := F)).VecSplit' (P m) 0 := by
  intro d c
  show coreP m d (Fin.cast nCore_zero c) (m (oLoc d)) ⊢ |={Set.univ}=> iprop(
      (bigSep Finset.univ fun i : Fin ((K (F := F)).nSub 0) => tileP m d (Fin.cast nCore_zero c) (Fin.cast nSub_zero i) (m (oLoc d)))
      ∗ ((bigSep Finset.univ fun i : Fin ((K (F := F)).nSub 0) => tileP m d (Fin.cast nCore_zero c) (Fin.cast nSub_zero i) (partsOf m d))
          -∗ coreP m d (Fin.cast nCore_zero c) (partsOf m d)))
  rw [bigSep_tasks (F := F) (fun i => tileP m d (Fin.cast nCore_zero c) i (m (oLoc d))),
    bigSep_tasks (F := F) (fun i => tileP m d (Fin.cast nCore_zero c) i (partsOf m d))]
  unfold coreP tileP
  rw [coreT_tiles, coreT_tiles]
  iintro H; imodintro
  isplitl [H]; · iexact H
  iintro H; iexact H

/-- What a tile runs. -/
theorem defs₀_vector (c : Fin τ.nSC) (s : Fin τ.nSub) :
    defs₀ (F := F) (.scVector c s) 0 ()
      = SparseCore.onTile hcore0 hsub0 (fun c s => cc0__sc_partial_sums (coordsV c s) leM (Memref.isWhole_whole _) zM (Memref.isWhole_whole _) bM (Memref.isWhole_whole _) t1M (Memref.isWhole_whole _) t2M (Memref.isWhole_whole _) oM (Memref.isWhole_whole _) s1M (Memref.isWhole_whole _) s2M (Memref.isWhole_whole _) le0M (Memref.isWhole_whole _) le1M (Memref.isWhole_whole _) z0M (Memref.isWhole_whole _) z1M (Memref.isWhole_whole _) b0M (Memref.isWhole_whole _) b1M (Memref.isWhole_whole _) accM (Memref.isWhole_whole _) cc0_scratch9 cc0_scratch10 cc0_scoped0 cc0_scoped1 cc0_scoped2) ⟨⟩ c s := rfl

/-- What a tile hands back at its end, in the form that the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

set_option maxRecDepth 4096 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hc : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hc, and_self, ↓reduceDIte]
  exact (tile_body d (coordsV ⟨_, hc.1⟩ ⟨_, hc.2⟩) hF (tileShare (Fin.cast nCore_zero c) (Fin.cast nSub_zero i)) (t1Of m d) (t2Of m d)
    (m (leLoc d)) (m (zLoc d)) (m (bLoc d)) (hpre d).1 (hpre d).2 (m (oLoc d)) O W hO).trans (wp_mono frame _ _ fun _ => obl_post)

end Cert.Proof.Seg

end
-- ==== Proof.Region.lean ====
/-
  The merging region: the TensorCore kernel over two whole arrays, which adds up the rows of partial sums. Its body run once,
  its proof data, and the region's call inside the program, from the two arrays to the two arrays.
-/
module

public import proofs.«01_k».proof.Proof.Setup
public import proofs.«01_k».proof.Proof.Gen.KernelIdeal.Launch
public import proofs.«01_k».proof.Proof.Gen.KernelIdeal.Skeleton
public import Idealize.ShloMosaic.Lib.Pipeline.Regions
public import Idealize.ShloMosaic.Lib.Writes
public import Idealize.ShloMosaic.Lib.Pipeline.ValueKit.Geometry
public import Idealize.ShloMosaic.Lib.VecWindow

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MM F

/-- The merged row: the column sums of the rows of partial sums, in the kernel's own order of addition. -/
def merged (o : Vec F S32x16384 .f32) : Vec F S16384 .f32 := k1_pay1 (fun x => o x)

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the merging body leaves in the result's staging buffer, with the proof that from both staging buffers held whole it runs to
its return, handing back the rows' as it was and the result's at that value. -/
def mergeRun (c : Dev nD) (M0 : Memref sig .tc .vmem S32x16384 .f32) (h0 : M0.IsWhole) (M1 : Memref sig .tc .vmem S16384 .f32)
    (h1 : M1.IsWhole) (f0 : Bf (F := F) c M0) :
    { W : Bf (F := F) c M1 // ∀ (f1 : Bf (F := F) c M1) (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc1__merge_body M0 h0 M1 h1) Q } := by
  refine ⟨?_, fun f1 E Q => ?run⟩
  case run =>
    iintro ⟨H0, H1, Hk⟩
    sl_exec!
    sl_step
    iapply Hk
    isplitl [H0]; · iexact H0
    iexact H1

/-- What the merge's body writes is the sum over the rows. -/
theorem mergeRun_eq (c : Dev nD) (o : Vec F S32x16384 .f32) :
    (mergeRun (F := F) c (stage1_0 0) (hstage1_0 0) (stage1_1 0) (hstage1_1 0) o).1 = merged o := by
  unfold mergeRun
  dsimp only
  unfold mergeRun.sl.H1_1
  have hr : (View.readAt (Elt F) (stage1_0 0).view (Rect.unit (s := S32x16384) ![0, 0] S32x16384.size inb_S32x16384_S32x16384_0_0).toLoadRect o)
      = fun x => o x := by
    funext x
    show o ((Rect.unit (s := S32x16384) ![0, 0] S32x16384.size inb_S32x16384_S32x16384_0_0).emb x) = o x
    rw [Rect.emb_unit_full]
  rw [hr]
  funext y
  have hy : y = ((stage1_1 0).view.slice (Rect.unit (s := S16384) ![0] S16384.size inb_S16384_S16384_0)).emb y := by
    show y = (Rect.unit (s := S16384) ![0] S16384.size inb_S16384_S16384_0).emb y
    rw [Rect.emb_unit_full]
  have hv := View.write_emb_of_mem (v := (stage1_1 0).view.slice (Rect.unit (s := S16384) ![0] S16384.size inb_S16384_S16384_0))
    (Val := Elt F) (View.whole cc1_stg1_0).junk (merged o) (M := Finset.univ) (x := y) (Finset.mem_univ _)
  rw [← hy] at hv
  exact hv

/-- The rows as the fetch stages them are the rows. -/
theorem stg_eq (o : Vec F S32x16384 .f32) : ((cfg1.win 0).blk t1_0).view.read (Elt F) o = o := by
  funext x
  refine congrArg o (a₁ := ((cfg1.win 0).blk t1_0).view.emb x) (a₂ := x) (funext fun a => Fin.ext ?_)
  refine (Idealize.ShloMosaic.ValueKit.view_emb_slice_whole_unit_val ..).trans ?_
  fin_cases a
  · exact Nat.zero_add _
  · exact Nat.zero_add _

/-- The region's proof data, from the rows `o` and whatever the result held: the rows stay, the result's staging buffer is left
at the merged row, nothing is owed, and the waits recorded so far stay at or below the level the calls end at. -/
def mdat (o : Vec F S32x16384 .f32) (r : Vec F S16384 .f32) (c : Dev nD) : Dat τ (Elt F) (HIx 1) ℕ UU ℕ cfg1 c where
  A w := match w with
    | ⟨0, _⟩ => o
    | ⟨1, _⟩ => r
  after w _ := match w with
    | ⟨0, _⟩ => o
    | ⟨1, _⟩ => merged o
  Φ _ := BI.emp
  q _ := fullShare
  owed _ := 0
  recorded _ := {p | (K (F := F)).lev (T c, p.1) p.2 ≤ 8}

/-- What the input's window holds before the body runs: the rows of partial sums. -/
theorem before_in (o : Vec F S32x16384 .f32) (r : Vec F S16384 .f32) (c : Dev nD) (d : (cfg1.win 0).block.Idx → Elt F (cfg1.win 0).elt) :
    (mdat o r c).before 0 t1_0 d = o := by
  unfold Dat.before; rw [if_pos (by decide)]; exact stg_eq o

/-- The library's body obligation: the two staging buffers taken apart, the run applied, its post reassembled. -/
theorem body_obligation (o : Vec F S32x16384 .f32) (r : Vec F S16384 .f32) (c : Dev nD) :
    BodyObligation (mdat o r c) (defs₀ (F := F)) 𝒱₀ (none : HIx 1) Set.univ := fun t => by
  obtain rfl := fin_N1 t
  rw [bigSep_W1, bigSep_W1]
  simp only [owns_whole_eq]
  rw [show (mdat o r c).Φ t1_0.castSucc = BI.emp from rfl, show (mdat o r c).Φ t1_0.succ = BI.emp from rfl,
    show (mdat o r c).owesAt none t1_0.succ = (mdat o r c).owesAt none t1_0.castSucc from rfl]
  iintro ⟨-, Howes, ⟨%d0, %f0, %hf0, H0⟩, ⟨%d1, %f1, -, H1⟩⟩
  rw [before_in] at hf0
  subst hf0
  iapply ((mergeRun (F := F) c (stage1_0 0) (hstage1_0 0) (stage1_1 0) (hstage1_1 0) f0).2 f1 Set.univ _)
  isplitl [H0]; · iexact H0
  isplitl [H1]; · iexact H1
  iintro ⟨H0, H1⟩
  isplitr; · iempintro
  isplitl [Howes]; · iexact Howes
  isplitl [H0]; · iexists _; isplitr; swap; (· iexact H0); ipureintro; dsimp only [mdat]
  iexists _; isplitr; swap; (· iexact H1); ipureintro; dsimp only [mdat]; exact mergeRun_eq c f0

/-- After the region the result's array is the merged row. -/
theorem arrAt_merged (o : Vec F S32x16384 .f32) (r : Vec F S16384 .f32) (c : Dev nD) : (mdat o r c).arrAt 1 cfg1.N = merged o := by
  funext i
  exact ((mdat o r c).arrAt_emb_eq_after_last 1 t1_0 (by decide +kernel) i)

/-- The two windows' arrays, held whole. -/
theorem arrays_two (o : Vec F S32x16384 .f32) (r : Vec F S16384 .f32) (c : Dev nD)
    (f : (w : Fin cfg1.W) → Buf (Elt F) ((cfg1.win w).arr.view.loc (c.tc : Thread nD τ))) :
    ((mdat o r c).arrays f : sProp 𝕄) = iprop((oLoc c ↦{fullShare} f 0) ∗ (rLoc c ↦{fullShare} f 1)) := by
  unfold Dat.arrays
  rw [bigSep_W1, (arr_whole1 0).set_eq_univ, (arr_whole1 1).set_eq_univ, (mdat o r c).share_full fun _ => rfl, (mdat o r c).share_full fun _ => rfl]

abbrev adm : (p : Fin 1) → (pcfgs (F := F) p).Adm := fun p => (cfgs p).toPCfg_adm

/-- The proof data of every pipeline: there is one. -/
def pdats (o : Dev nD → Vec F S32x16384 .f32) (r : Dev nD → Vec F S16384 .f32) :
    (p : Fin 1) → (c : Dev nD) → Dat τ (Elt F) (HIx 1) ℕ UU ℕ (Pipeline.pin (pcfgs (F := F)) adm p) c
  | ⟨0, _⟩ => fun c => mdat (o c) (r c) c

/-- The two arrays make up what the region takes, -/
theorem arrays_in (o : Dev nD → Vec F S32x16384 .f32) (r : Dev nD → Vec F S16384 .f32) (c : Dev nD) :
    iprop((oLoc c ↦{fullShare} o c) ∗ (rLoc c ↦{fullShare} r c)) ⊢ ((pdats o r 0 c).arrays (pdats o r 0 c).A : sProp 𝕄) :=
  Entails.of_eq (arrays_two (o c) (r c) c (mdat (o c) (r c) c).A).symm

/-- and what it leaves is the two arrays, the result's at the merged row. -/
theorem arrays_out (o : Dev nD → Vec F S32x16384 .f32) (r : Dev nD → Vec F S16384 .f32) (c : Dev nD) :
    ((pdats o r 0 c).arrays fun x => (pdats o r 0 c).arrAt x (Pipeline.pin (pcfgs (F := F)) adm 0).N)
      ⊢ (iprop((oLoc c ↦{fullShare} o c) ∗ (rLoc c ↦{fullShare} merged (o c))) : sProp 𝕄) :=
  (Entails.of_eq (arrays_two (o c) (r c) c ((mdat (o c) (r c) c).arrAt · cfg1.N))).trans
    (Entails.of_eq (congrArg₂ (fun f g => (iprop((oLoc c ↦{fullShare} f) ∗ (rLoc c ↦{fullShare} g)) : sProp 𝕄))
      ((mdat (o c) (r c) c).arrAt_in 0 rfl _) (arrAt_merged (o c) (r c) c)))

/-- The TensorCore's waits recorded so far, all at or below the level the calls end at, and nothing owed. -/
abbrev endOwes (c : Dev nD) : sProp 𝕄 :=
  iprop(∃ W, ⌜(K (F := F)).WBelow (T c) W 8⌝ ∗ owes (c : Thread nD τ) (0 : CellTallies nD τ sig (HIx 1)) W)

set_option backward.isDefEq.respectTransparency.types false in
/-- The merging region: from the rows `o` and the result's array at anything to the rows and the result's array at the merged row. -/
def mreg (o : Dev nD → Vec F S32x16384 .f32) (r : Dev nD → Vec F S16384 .f32) :
    Pipeline.RegionSeg (pcfgs (F := F)) adm (pdats o r) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation (o c) (r c) c).loose
  hwaits := Pipeline.hwaits_of_owed_zero _ _ _ _ (K (F := F)).L (K (F := F)).lev 0 fun _ _ => rfl
  pre c := iprop((oLoc c ↦{fullShare} o c) ∗ (rLoc c ↦{fullShare} r c) ∗ endOwes c)
  post c := iprop((oLoc c ↦{fullShare} o c) ∗ (rLoc c ↦{fullShare} merged (o c)) ∗ endOwes c)
  X _ := BI.emp
  Y _ := BI.emp
  Z _ := BI.emp
  hentry c := by
    rw [Pipeline.ownSems0_none]
    iintro ⟨⟨Ho, Hr, HO⟩, -, -⟩
    imodintro
    isplitl [Ho Hr]
    · iapply (arrays_in o r c)
      isplitl [Ho] <;> iassumption
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats o r 0 c).Φ 0 = BI.emp from rfl]
    iintro -; iempintro
  hout c := by
    rw [Pipeline.ownSems0_none]
    show BI.emp ⊢ iprop(BI.emp ∗ BI.emp ∗ Pipeline.scopedRest spec1 c)
    rw [scopedRest1_eq]
    iintro -
    isplitr; · iempintro
    isplitr; · iempintro
    iempintro
  hexit c := by
    iintro ⟨Ha, HO, -, -⟩
    imodintro
    ihave Ha := (arrays_out o r c) $$ Ha
    icases Ha with ⟨Ho, Hr⟩
    isplitl [Ho]; · iexact Ho
    isplitl [Hr]; · iexact Hr
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

/-- What the merging region's call takes besides its continuation. -/
abbrev mergeIn (o : Vec F S32x16384 .f32) (r : Vec F S16384 .f32) (c : Dev nD) : sProp 𝕄 :=
  iprop(boundary (T c) ∗ ((oLoc c ↦{fullShare} o) ∗ (rLoc c ↦{fullShare} r) ∗ endOwes c) ∗ levAts (K (F := F)).L (K (F := F)).lev
        ∗ Pipeline.cellsGhost cfgs EP (0 : Fin 1) c ∗ Pipeline.toksInit cfgs EP (0 : Fin 1) c)

/-- What the merging region's call gives back. -/
abbrev mergeOut (o : Vec F S32x16384 .f32) (c : Dev nD) : sProp 𝕄 :=
  iprop(boundary (T c) ∗ ((oLoc c ↦{fullShare} o) ∗ (rLoc c ↦{fullShare} merged o) ∗ endOwes c))

end Cert.Proof.Seg

end
-- ==== Proof.RegionCall.lean ====
/-
  The merging region's call as the program's TensorCore thread makes it.
-/
module

public import proofs.«01_k».proof.Proof.Region
public import proofs.«01_k».proof.Proof.Gen.KernelIdeal.Launch
public import proofs.«01_k».proof.Proof.Gen.KernelIdeal.Skeleton
public import Idealize.ShloMosaic.Lib.Pipeline.Regions
public import Idealize.ShloMosaic.Lib.Writes
public import Idealize.ShloMosaic.Lib.Pipeline.ValueKit.Geometry
public import Idealize.ShloMosaic.Lib.VecWindow

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MM F

/-- The merging region's call in the TensorCore's own program: from the boundary, the rows, the result's array at anything and the
region's ghost state, to the boundary and the result's array at the merged row. -/
theorem merge_region (o : Vec F S32x16384 .f32) (r : Vec F S16384 .f32) (c : Dev nD) (Q : PUnit.{1} → sProp 𝕄) :
    iprop((mergeOut o c -∗ wp frame (wpE (D (F := F)) 𝒱 (T c) none) Set.univ (.ret PUnit.unit) Q) ∗ mergeIn o r c)
      ⊢ wp frame (wpE (D (F := F)) 𝒱 (T c) none) Set.univ (.op (.customCall (Pipeline.entry 0) ()) fun _ => .ret PUnit.unit) Q :=
  (mreg (F := F) (fun _ => o) (fun _ => r)).wp (pcfgs (F := F)) adm (pdats (fun _ => o) (fun _ => r)) (none : HIx 1) cellOf_inj EP defs₀ 𝒱₀
    (K (F := F)).L (K (F := F)).lev c none (fun u hu => by cases hu) (fun _ => .ret PUnit.unit) Q

/-- The same call in the whole program. -/
theorem merge_call (o : Vec F S32x16384 .f32) (r : Vec F S16384 .f32) (c : Dev nD) (Q : PUnit.{1} → sProp 𝕄) :
    iprop((mergeOut o c -∗ Q PUnit.unit) ∗ mergeIn o r c)
      ⊢ wp frame (wpE ((K (F := F)).defs (D (F := F))) 𝒱 (T c) none) Set.univ
          (Prog.lift (.customCall (SparseCore.inner (Pipeline.entry 0)) ())) Q := by
  have hl := (K (F := F)).wp_liftProg (D (F := F)) 𝒱 (T c) (Set.univ : Set ℕ) none (.op (.customCall (Pipeline.entry 0) ()) fun _ => .ret PUnit.unit) Q
  have he : (SparseCore.liftProg (nD := nD) (τ := τ) (sig := sig) (Val := Elt F) (Λ := ΛP (F := F)) (Q := 1) (.op (.customCall (Pipeline.entry 0) ()) fun _ => .ret PUnit.unit) : Prog (TpuEff nD τ sig (Elt F) _ .tc) PUnit.{1})
      = Prog.lift (.customCall (SparseCore.inner (Pipeline.entry 0)) ()) := rfl
  rw [he] at hl
  refine BI.Entails.trans ?_ hl
  refine BI.Entails.trans ?_ (merge_region o r c Q)
  show (_ : sProp 𝕄) ⊢ _
  iintro ⟨Hk, Hin⟩
  isplitl [Hk]
  · iintro Ho
    rw [wp_ret]
    imodintro
    iapply Hk
    iexact Ho
  iexact Hin

end Cert.Proof.Seg

end
-- ==== Proof.Main.lean ====
/-
  The program's main on the TensorCore: the host operations build the two tables, the SparseCore call leaves the rows of partial
  sums, the merging region adds the rows up.
-/
module

public import proofs.«01_k».proof.Proof.Deal
public import proofs.«01_k».proof.Proof.RegionCall

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (seq held after wp_seq nullary unary ternary)

variable {F : FTy → Type} [FloatOps F]

local notation "𝕄" => MM F

variable (m : (ℓ : Loc nD τ sig) → Buf (Elt F) ℓ) (ρ : Dev nD → PrngReg)

/-! ## The host operations -/

/-- The operations that build the two tables. -/
abbrev hostOps : List (HloOp τ sig (Elt F)) :=
  [StableHlo.nullary main_cst (constant S_ .f32 0x00000000#32),
    StableHlo.unary main_cst main_v0 (broadcastInDim S128 ![] bcast_S_S128 : (⟨S_, .f32⟩ : BufTy).Contents (Elt F) → (⟨S128, .f32⟩ : BufTy).Contents (Elt F)),
    StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.ternary main_v0 main_v1 main_arg3 main_v2 ((fun x i u => Host.scatter scatter_S128_S1_S119_0_n_0_0 (fun _ b => b) x i u) : (⟨S128, .f32⟩ : BufTy).Contents (Elt F) → (⟨S1, .i32⟩ : BufTy).Contents (Elt F) → (⟨S119, .f32⟩ : BufTy).Contents (Elt F) → (⟨S128, .f32⟩ : BufTy).Contents (Elt F)),
    StableHlo.nullary main_cst_0 (constant S_ .f32 0x00000000#32),
    StableHlo.unary main_cst_0 main_v3 (broadcastInDim S128 ![] bcast_S_S128 : (⟨S_, .f32⟩ : BufTy).Contents (Elt F) → (⟨S128, .f32⟩ : BufTy).Contents (Elt F)),
    StableHlo.nullary main_c_1 (constantI S_ 32 0#32),
    StableHlo.unary main_c_1 main_v4 (broadcastInDim S1 ![] bcast_S_S1 : (⟨S_, .i32⟩ : BufTy).Contents (Elt F) → (⟨S1, .i32⟩ : BufTy).Contents (Elt F)),
    StableHlo.ternary main_v3 main_v4 main_arg4 main_v5 ((fun x i u => Host.scatter scatter_S128_S1_S119_0_n_0_0 (fun _ b => b) x i u) : (⟨S128, .f32⟩ : BufTy).Contents (Elt F) → (⟨S1, .i32⟩ : BufTy).Contents (Elt F) → (⟨S119, .f32⟩ : BufTy).Contents (Elt F) → (⟨S128, .f32⟩ : BufTy).Contents (Elt F))]

/-- The program in its parts: the operations before the launch, the launch, the merge. -/
theorem main_eq (d : Dev nD) :
    main (F := F) d = seq hostOps >>= fun _ => (K (F := F)).run d 0 >>= fun _ =>
      Prog.lift (.customCall (SparseCore.inner (Pipeline.entry 0)) ()) := by
  rfl

abbrev dv (r : Ref sig .tc) : DevRef τ sig := Proc.devRef .tc r

/-- The arrays the call and the region touch, and the others. -/
abbrev restRefs : Finset (DevRef τ sig) := {dv main_cst, dv main_v0, dv main_c, dv main_v1, dv main_cst_0, dv main_v3, dv main_c_1, dv main_v4}
abbrev SAll : Finset (DevRef τ sig) :=
  insert (dv main_arg0) (insert (dv main_arg1) (insert (dv main_arg2) (insert (dv main_v2) (insert (dv main_v5)
    (insert (dv main_v6) (insert (dv main_arg3) (insert (dv main_arg4) (insert (dv main_v7) restRefs))))))))

/-- The arrays held, one by one. -/
theorem held_SAll (d : Dev nD) (W : Valuation τ sig (Elt F)) :
    (held (T d) SAll W : sProp 𝕄) = iprop((leLoc d ↦{fullShare} W (dv main_arg0)) ∗ (zLoc d ↦{fullShare} W (dv main_arg1)) ∗ (bLoc d ↦{fullShare} W (dv main_arg2))
      ∗ (t1Loc d ↦{fullShare} W (dv main_v2)) ∗ (t2Loc d ↦{fullShare} W (dv main_v5)) ∗ (oLoc d ↦{fullShare} W (dv main_v6))
      ∗ (scLoc d ↦{fullShare} W (dv main_arg3)) ∗ (shLoc d ↦{fullShare} W (dv main_arg4)) ∗ (rLoc d ↦{fullShare} W (dv main_v7)) ∗ held (T d) restRefs W) := by
  unfold held SAll
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide)]

/-- The launch valuation. -/
def V0 (d : Dev nD) : Valuation τ sig (Elt F) := fun b => m (d, b)

/-- The program's arrays. -/
theorem filter_eq : ((StableHlo.tcRefs τ sig).filter fun b => ¬ b.isScoped) = SAll := by decide

/-- The arrays at the program's start are held at the memory's contents. -/
theorem unscoped_held (d : Dev nD) : (unscopedBufs d (fun b => m ((SparseCore.T d).loc b)) : sProp 𝕄) = held (T d) SAll (V0 m d) := by
  rw [← filter_eq]
  unfold unscopedBufs held StableHlo.tcRefs
  rw [Finset.filter_map, bigSep_map]
  rfl

/-! ## What the host operations leave -/

/-- The operations before the launch leave the arguments alone. -/
theorem after_args (d : Dev nD) : after hostOps (V0 m d) (dv main_arg0) = m (leLoc d) ∧ after hostOps (V0 m d) (dv main_arg1) = m (zLoc d)
    ∧ after hostOps (V0 m d) (dv main_arg2) = m (bLoc d) ∧ after hostOps (V0 m d) (dv main_arg3) = m (scLoc d)
    ∧ after hostOps (V0 m d) (dv main_arg4) = m (shLoc d) ∧ after hostOps (V0 m d) (dv main_v6) = m (oLoc d)
    ∧ after hostOps (V0 m d) (dv main_v7) = m (rLoc d) := by
  refine ⟨?_, ?_, ?_, ?_, ?_, ?_, ?_⟩ <;> · after_results_simp; rfl

/-- They leave the padded table of scales. -/
theorem after_t1 (d : Dev nD) : after hostOps (V0 m d) (dv main_v2) = t1Of m d := by
  after_results_simp; rfl

/-- They leave the padded table of shifts. -/
theorem after_t2 (d : Dev nD) : after hostOps (V0 m d) (dv main_v5) = t2Of m d := by
  after_results_simp; rfl

/-- The arrays after the host operations, one by one: the arguments as at the launch, the two tables built. -/
theorem held_after (d : Dev nD) :
    (held (T d) SAll (after hostOps (V0 m d)) : sProp 𝕄) = iprop((leLoc d ↦{fullShare} m (leLoc d)) ∗ (zLoc d ↦{fullShare} m (zLoc d)) ∗ (bLoc d ↦{fullShare} m (bLoc d))
      ∗ (t1Loc d ↦{fullShare} t1Of m d) ∗ (t2Loc d ↦{fullShare} t2Of m d) ∗ (oLoc d ↦{fullShare} m (oLoc d))
      ∗ (scLoc d ↦{fullShare} m (scLoc d)) ∗ (shLoc d ↦{fullShare} m (shLoc d)) ∗ (rLoc d ↦{fullShare} m (rLoc d)) ∗ held (T d) restRefs (after hostOps (V0 m d))) := by
  obtain ⟨h0, h1, h2, h3, h4, h6, h7⟩ := after_args m d
  rw [held_SAll, h0, h1, h2, h3, h4, h6, h7, after_t1, after_t2]

/-! ## The ghost state the launch deals -/

/-- What the region needs on device `d`. -/
abbrev G (d : Dev nD) : sProp 𝕄 :=
  iprop(Pipeline.cellsGhost cfgs EP (0 : Fin 1) d ∗ Pipeline.toksInit cfgs EP (0 : Fin 1) d)

abbrev up₀ : UP := initOf (Pipeline.cells (nD := nD) (τ := τ) cfgs cellOf_inj) (Pipeline.launchToks (nD := nD) (τ := τ) cfgs cellOf_inj)
def u₀ : UU := (initOf (K (F := F)).hsCells (K (F := F)).hsToks, (up₀, 1))

/-- The start's ghost state splits between the launch and the merge. -/
theorem ownU_split (a : UH) (b : UP) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- No thread is dealt anything beyond its share. -/
theorem x_emp (thr : Thread nD τ) : (bigSep Finset.univ fun q : Fin 1 => (P (F := F) m).x q thr) = iprop(emp) :=
  bigSep_univ_of_subsingleton (0 : Fin 1)

/-- The start's ghost state deals what the launch and the merge need. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_split _ _) $$ Hu
  icases H with ⟨HH, HK⟩
  imod (Pipeline.fund_ghost cfgs EP cellOf_inj) $$ HK with ⟨Hg, Ht⟩
  imodintro
  isplitl [HH]; · iexact HH
  isplitl [Hg Ht]
  · rw [bigSep_sep']
    simp only [bigSep_univ_of_subsingleton (0 : Fin 1)]
    isplitl [Hg]; · iexact Hg
    iexact Ht
  · simp only [x_emp]
    have he : (bigSep Finset.univ fun _ : Thread nD τ => iprop(emp)) = (iprop(emp) : sProp 𝕄) := bigSep_emp_const _
    rw [he]
    iempintro

/-! ## The call's payloads, and what the TensorCore holds after it -/

/-- What the launch sends out, over the two SparseCores. -/
theorem st0_eq (d : Dev nD) : (bigSep Finset.univ fun c : Fin ((K (F := F)).nCore 0) => (P m).st 0 d c)
    = iprop(ins d fullShare (t1Of m d) (t2Of m d) (m (leLoc d)) (m (zLoc d)) (m (bLoc d)) ∗ oLoc d ↦{fullShare} m (oLoc d)) :=
  (bigSep_cores (F := F) (fun c => coreP m d c (m (oLoc d)))).trans (all_cores ..).symm
/-- What the launch gets back, over the two SparseCores. -/
theorem dn0_eq (d : Dev nD) : (bigSep Finset.univ fun c : Fin ((K (F := F)).nCore 0) => (P m).dn 0 d c)
    = iprop(ins d fullShare (t1Of m d) (t2Of m d) (m (leLoc d)) (m (zLoc d)) (m (bLoc d)) ∗ oLoc d ↦{fullShare} partsOf m d) :=
  (bigSep_cores (F := F) (fun c => coreP m d c (partsOf m d))).trans (all_cores ..).symm

/-- What stays beside the debts once every call is made. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- The launching core's state after the launch. -/
theorem tcSt_end (d : Dev nD) : ((K (F := F)).tcSt EH d 1 : sProp 𝕄) = iprop(endOwes d ∗ tcRest d) := by
  unfold SparseCore.Cfg.tcSt tcRest
  rw [(K (F := F)).Otc_end d (le_refl 1)]
  rfl

/-- The same, with the launch's number as it arises. -/
theorem tcSt_end' (d : Dev nD) : ((K (F := F)).tcSt EH d ((0 : Fin 1).val + 1) : sProp 𝕄) = iprop(endOwes d ∗ tcRest d) := tcSt_end d

/-! ## The run of the main -/

/-- What the main leaves: the five arguments at their launch contents, the result at the merged rows. -/
abbrev FIN (d : Dev nD) : sProp 𝕄 :=
  iprop((leLoc d ↦{fullShare} m (leLoc d)) ∗ (zLoc d ↦{fullShare} m (zLoc d)) ∗ (bLoc d ↦{fullShare} m (bLoc d))
    ∗ (scLoc d ↦{fullShare} m (scLoc d)) ∗ (shLoc d ↦{fullShare} m (shLoc d)) ∗ rLoc d ↦{fullShare} merged (partsOf m d))

/-- The operations before the launch touch the program's arrays only. -/
theorem hops_bufs : ∀ op ∈ (hostOps : List (HloOp τ sig (Elt F))), op.bufs ⊆ SAll := by
  intro op hop
  simp only [hostOps, List.mem_cons, List.mem_nil_iff, or_false] at hop
  rcases hop with rfl | rfl | rfl | rfl | rfl | rfl | rfl | rfl | rfl | rfl
  · exact (show ({dv main_cst} : Finset (DevRef τ sig)) ⊆ SAll by decide)
  · exact (show ({dv main_cst, dv main_v0} : Finset (DevRef τ sig)) ⊆ SAll by decide)
  · exact (show ({dv main_c} : Finset (DevRef τ sig)) ⊆ SAll by decide)
  · exact (show ({dv main_c, dv main_v1} : Finset (DevRef τ sig)) ⊆ SAll by decide)
  · exact (show ({dv main_v0, dv main_v1, dv main_arg3, dv main_v2} : Finset (DevRef τ sig)) ⊆ SAll by decide)
  · exact (show ({dv main_cst_0} : Finset (DevRef τ sig)) ⊆ SAll by decide)
  · exact (show ({dv main_cst_0, dv main_v3} : Finset (DevRef τ sig)) ⊆ SAll by decide)
  · exact (show ({dv main_c_1} : Finset (DevRef τ sig)) ⊆ SAll by decide)
  · exact (show ({dv main_c_1, dv main_v4} : Finset (DevRef τ sig)) ⊆ SAll by decide)
  · exact (show ({dv main_v3, dv main_v4, dv main_arg4, dv main_v5} : Finset (DevRef τ sig)) ⊆ SAll by decide)

/-- They make no new array. -/
theorem hops_fresh : ∀ op ∈ (hostOps : List (HloOp τ sig (Elt F))), op.fresh = ∅ := by
  intro op hop
  fin_cases hop <;> rfl

/-- The launching core's program, from its share to the final state's facts. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, ⟨Hcg, Htk⟩⟩
  iapply (wp_seq 𝒱 none Set.univ d SAll _ hostOps hops_bufs hops_fresh (V0 m d)) $$ [Hb Hheld]
  · isplitl [Hb] <;> iassumption
  iintro ⟨Hb, Hheld⟩
  ihave Hh := (Entails.of_eq (held_after m d)) $$ Hheld
  icases Hh with ⟨Hle, Hz, Hbt, Ht1, Ht2, Ho, Hsc, Hsh, Hr, -⟩
  rw [wp_bind]
  iapply ((K (F := F)).wp_run (D (F := F)) 𝒱 (EH := EH) (P := P m) κ d 0) $$ [Hst Hle Hz Hbt Ht1 Ht2 Ho Hb Hsc Hsh Hr Hts Hcg Htk]
  isplitr; · iexact Hctx
  isplitl [Hst]; · iexact Hst
  isplitl [Hle Hz Hbt Ht1 Ht2 Ho]
  · rw [st0_eq]
    unfold ins
    isplitr [Ho]
    · isplitl [Hle]; · iexact Hle
      isplitl [Hz]; · iexact Hz
      isplitl [Hbt]; · iexact Hbt
      isplitl [Ht1]; · iexact Ht1
      iexact Ht2
    · iexact Ho
  iintro ⟨Hst, Hdn⟩
  ihave Hdn' := (Entails.of_eq (dn0_eq m d)) $$ Hdn
  ihave Hst' := (Entails.of_eq (tcSt_end' (F := F) d)) $$ Hst
  icases Hdn' with ⟨Hins, Ho⟩
  unfold ins
  icases Hins with ⟨Hle, Hz, Hbt, -, -⟩
  icases Hst' with ⟨Howe, Hrest⟩
  ihave Hlev := ((K (F := F)).ctx_levAts κ) $$ Hctx
  iapply (merge_call (partsOf m d) (m (rLoc d)) d) $$ [Hle Hz Hbt Ho Hb Hsc Hsh Hr Hts Hcg Htk Howe Hrest Hlev]
  isplitl [Hle Hz Hbt Hsc Hsh Hts Hrest]
  · iintro ⟨Hb, -, Hr, Howe⟩
    isplitl [Howe Hrest]
    · rw [tcSt_end]
      isplitl [Howe]; · iexact Howe
      iexact Hrest
    isplitr [Hb Hts]
    · isplitl [Hle]; · iexact Hle
      isplitl [Hz]; · iexact Hz
      isplitl [Hbt]; · iexact Hbt
      isplitl [Hsc]; · iexact Hsc
      isplitl [Hsh]; · iexact Hsh
      iexact Hr
    isplitl [Hb] <;> iassumption
  isplitl [Hb]; · iexact Hb
  isplitl [Ho Hr Howe]
  · isplitl [Ho]; · iexact Ho
    isplitl [Hr]; · iexact Hr
    iexact Howe
  isplitl [Hlev]; · iexact Hlev
  isplitl [Hcg]; · iexact Hcg
  iexact Htk

/-! ## The program's run -/

def fq (d : Dev nD) (s' : Phys nD τ sig (Elt F)) : Prop :=
  s'.mem.mem (leLoc d) = m (leLoc d) ∧ s'.mem.mem (zLoc d) = m (zLoc d) ∧ s'.mem.mem (bLoc d) = m (bLoc d)
    ∧ s'.mem.mem (scLoc d) = m (scLoc d) ∧ s'.mem.mem (shLoc d) = m (shLoc d) ∧ s'.mem.mem (rLoc d) = merged (partsOf m d)

/-- What is held at the end says what the final memory is. -/
theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave H := (persistent_entails_right (SI_pointsTo_agree (st := s') (ℓ := leLoc d) (I := Finset.univ) (q := fullShare) (f := m (leLoc d)))) $$ [HSI H0]
  · isplitl [HSI] <;> iassumption
  icases H with ⟨%h0, HSI, -⟩
  ihave H := (persistent_entails_right (SI_pointsTo_agree (st := s') (ℓ := zLoc d) (I := Finset.univ) (q := fullShare) (f := m (zLoc d)))) $$ [HSI H1]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI H2]
  · isplitl [HSI] <;> iassumption
  icases H with ⟨%h2, HSI, -⟩
  ihave H := (persistent_entails_right (SI_pointsTo_agree (st := s') (ℓ := scLoc d) (I := Finset.univ) (q := fullShare) (f := m (scLoc d)))) $$ [HSI H3]
  · isplitl [HSI] <;> iassumption
  icases H with ⟨%h3, HSI, -⟩
  ihave H := (persistent_entails_right (SI_pointsTo_agree (st := s') (ℓ := shLoc d) (I := Finset.univ) (q := fullShare) (f := m (shLoc d)))) $$ [HSI H4]
  · isplitl [HSI] <;> iassumption
  icases H with ⟨%h4, HSI, -⟩
  ihave H := (SI_pointsTo_agree (st := s') (ℓ := rLoc d) (I := Finset.univ) (q := fullShare) (f := merged (partsOf m d))) $$ [HSI H5]
  · isplitl [HSI] <;> iassumption
  icases H with %h5
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i)⟩

/-- Every final state: the arguments unchanged, the result the merged rows of partial sums, every semaphore at zero. -/
def QC : PUnit × MemSt nD τ sig (Elt F) → Prop := fun r =>
  (∀ c : Dev nD, r.2.mem (leLoc c) = m (leLoc c) ∧ r.2.mem (zLoc c) = m (zLoc c) ∧ r.2.mem (bLoc c) = m (bLoc c)
    ∧ r.2.mem (scLoc c) = m (scLoc c) ∧ r.2.mem (shLoc c) = m (shLoc c) ∧ r.2.mem (rLoc c) = merged (partsOf m c)) ∧ r.2.sem = fun _ => 0

/-- The whole program, from any memory with the index arrays in range, ends in such a state. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.Seg

end
-- ==== Proof.Frames.lean ====
/-
  The precondition read as index ranges, and the frames: of the kernel, of its ideal reading and of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Main
public import Idealize.ShloMosaic.Lib.ReduceAll

@[expose] public section

noncomputable section

namespace Cert.Proof

open Idealize.ShloMosaic Idealize.SL.Sem

instance : Subsingleton (Cert.Pre_in_range.S_).Idx := ⟨fun _ _ => funext fun k => k.elim0⟩

/-- A word at least 0 and below `n`, both signed, is below `n` as a natural number. -/
theorem lt_of_signed (v : BitVec 32) (n : ℕ) (hn : n < 2 ^ 31) (h0 : IntOp.cmpi .sge v 0#32 = 1#1) (h1 : IntOp.cmpi .slt v (BitVec.ofNat 32 n) = 1#1) :
    v.toNat < n := by
  have ofBool_eq_one (p : Bool) : (BitVec.ofBool p = 1#1) ↔ p = true := by cases p <;> decide
  simp only [IntOp.cmpi, ofBool_eq_one, BitVec.sle_eq_decide, BitVec.slt_eq_decide,
      decide_eq_true_eq, BitVec.toInt_eq_toNat_cond, BitVec.toNat_ofNat, Nat.reducePow, Nat.reduceMod] at h0 h1
  have : n % 4294967296 = n := Nat.mod_eq_of_lt (by omega)
  rw [this] at h1
  omega

/-- The precondition, all ones, puts the species below 119 and the structures below 16384. -/
theorem ranges {F : FTy → Type} [FloatOps F] (le : FVec F Cert.Pre_in_range.S6400000 .f32) (z b : IVec Cert.Pre_in_range.S6400000 32) (sc sh : FVec F Cert.Pre_in_range.S119 .f32)
    (h : Cert.Pre_in_range.fn (F := F) le z b sc sh = fun _ => 1#1) :
    (∀ i, (z i).toNat < 119) ∧ ∀ i, (b i).toNat < 16384 := by
  have e := congrFun h (Shape.Idx.first Cert.Pre_in_range.Facts.h_S_)
  unfold Cert.Pre_in_range.fn at e
  obtain ⟨e, e4⟩ := IntOp.andi_eq_one.1 e
  obtain ⟨e, e3⟩ := IntOp.andi_eq_one.1 e
  obtain ⟨e1, e2⟩ := IntOp.andi_eq_one.1 e
  refine ⟨fun i => lt_of_signed _ 119 (by norm_num) ?_ ?_, fun i => lt_of_signed _ 16384 (by norm_num) ?_ ?_⟩
  · exact Host.reduce_andi_all _ _ _ _ _ e1 i
  · exact Host.reduce_andi_all _ _ _ _ _ e2 i
  · exact Host.reduce_andi_all _ _ _ _ _ e3 i
  · exact Host.reduce_andi_all _ _ _ _ _ e4 i

/-- The kernel's inputs are in range. -/
theorem ok_kernel (m : (ℓ : Loc Cert.Kernel.nD Cert.Kernel.τ Cert.Kernel.sig) → Buf (Elt Bits) ℓ) (h : Cert.Pre_Kernel m) : Seg.PreOK (F := Bits) m :=
  fun d => ranges _ _ _ _ _ (h d)

/-- The ideal kernel's inputs are in range. -/
theorem ok_ideal (m : (ℓ : Loc Cert.KernelIdeal.nD Cert.KernelIdeal.τ Cert.KernelIdeal.sig) → Buf (Elt Ideal) ℓ) (h : Cert.Pre_KernelIdeal m) : Seg.PreOK (F := Ideal) m :=
  fun d => ranges _ _ _ _ _ (h d)

/-- The arguments unchanged and every semaphore at zero, over any float values. -/
theorem frame_of {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) (hp : Seg.PreOK m) :
    θ_run (Cert.KernelIdeal.defs (F := F)) (Cert.KernelIdeal.threads (F := F)) ⟨m, fun _ => 0, ρ⟩ (fun r => (∀ c : Dev Cert.KernelIdeal.nD,
      r.2.mem (Seg.leLoc c) = m (Seg.leLoc c) ∧ r.2.mem (Seg.zLoc c) = m (Seg.zLoc c) ∧ r.2.mem (Seg.bLoc c) = m (Seg.bLoc c)
      ∧ r.2.mem (Seg.scLoc c) = m (Seg.scLoc c) ∧ r.2.mem (Seg.shLoc c) = m (Seg.shLoc c)) ∧ r.2.sem = fun _ => 0) :=
  (θ_run Cert.KernelIdeal.defs _ _).mono (fun _ h => ⟨fun c => let ⟨h0, h1, h2, h3, h4, _⟩ := h.1 c; ⟨h0, h1, h2, h3, h4⟩, h.2⟩)
    (Seg.run_main m ρ hp)

/-- The ideal kernel's frame. -/
theorem frame_ideal : Cert.quiescent_KernelIdeal := fun m ρ hp => frame_of (F := Ideal) m ρ (ok_ideal m hp)

/-- The two programs' kernels are the same text. -/
theorem defs₀_eq {F : FTy → Type} [FloatOps F] : Cert.Kernel.defs₀ (F := F) = Cert.KernelIdeal.defs₀ (F := F) := by
  funext p l a
  match p, l, a with
  | .scVector c s, 0, _ => rfl
  | .scVector c s, 1, _ => rfl
  | .tc, 0, _ => rfl
  | .tc, 1, _ => rfl
  | .scScalar c, 0, _ => rfl
  | .scScalar c, 1, _ => rfl

/-- With the launches' labels added they still are. -/
theorem defs_eq {F : FTy → Type} [FloatOps F] : Cert.Kernel.defs (F := F) = Cert.KernelIdeal.defs (F := F) := by
  unfold Cert.Kernel.defs Cert.KernelIdeal.defs
  rw [defs₀_eq]
  rfl

/-- The kernel's frame: its text is the ideal kernel's. -/
theorem frame_kernel : Cert.quiescent_Kernel := by
  intro m ρ hp
  rw [defs_eq]
  exact frame_of (F := Bits) m ρ (ok_kernel m hp)

/-- The reference's frame, from any memory. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference's frame at inputs in range. -/
theorem frame_reference_pre : Cert.quiescent_ReferenceIdeal_pre_in_range := fun m ρ _ => frame_reference m ρ trivial

end Cert.Proof

end
-- ==== Proof.BlockSum.lean ====
/-
  A tile's table after a block, with the floats extended reals: every entry has grown by the energies of the block's atoms that
  belong to it.

  The order in which the lanes add does not matter to the exact sum. So the loop keeps this: an entry of the table, together with
  the running sums of the lanes that are at that entry, is what the entry was at the block's start plus the energies of the atoms
  taken so far that belong to it.
-/
module

public import proofs.«01_k».proof.Proof.Spec
public import Idealize.ShloMosaic.PureOps.Ideal.Laws

@[expose] public section

noncomputable section

namespace Cert.Proof.Seg

open Cert.KernelIdeal Cert.KernelIdeal.Gen

open Idealize.ShloMosaic Idealize.SL.Sem

/-- The lane `k` of sixteen. -/
def lane (k : Fin 16) : S16.Idx := ix1 k.val k.isLt

/-- A table after one lane of an add-scatter. -/
def addLane {s : Shape} {d : Fin 1 → ℕ} (idxs : Fin s.rank → IVec ⟨1, d⟩ 32) (v : Vec Ideal ⟨1, d⟩ .f32) (mask : IVec ⟨1, d⟩ 1)
    (h : ∀ a x, (idxs a x).toNat < s.size a) (g : Vec Ideal s .f32) (k : Fin (d 0)) : Vec Ideal s .f32 :=
  let x := Shape.ofLane k
  if mask x = 1 then
    let i := idxAt idxs h x
    fun j => if (∀ a, (j a).val = (i a).val) then Elt.idxAdd .f32 (g i) (v x) else g j
  else g

/-- The add-scatter is its lanes one after the other. -/
theorem storeIdx_eq_foldl {s : Shape} {d : Fin 1 → ℕ} (f : Vec Ideal s .f32) (idxs : Fin s.rank → IVec ⟨1, d⟩ 32) (v : Vec Ideal ⟨1, d⟩ .f32)
    (mask : IVec ⟨1, d⟩ 1) (h : ∀ a x, (idxs a x).toNat < s.size a) :
    storeIdx f idxs v mask true h = (List.finRange (d 0)).foldl (addLane idxs v mask h) f := by
  unfold storeIdx addLane
  simp only [if_true]

/-- One lane of an add-scatter, read at an entry: the entry, and the lane's value if the lane is masked in and names it. -/
theorem addLane_apply (b : Vec Ideal S16 .i32) (v : Vec Ideal S16 .f32) (mask : IVec S16 1)
    (h : ∀ (a : Fin S16384.rank) (x : S16.Idx), ((![b] : Fin 1 → IVec S16 32) a x).toNat < S16384.size a) (g : Vec Ideal S16384 .f32) (k : Fin 16)
    (j : S16384.Idx) :
    (addLane (s := S16384) ![b] v mask h g k j : EReal)
      = (g j : EReal) + (if mask (lane k) = 1 ∧ (b (lane k) : BitVec 32).toNat = (j 0).val then (v (lane k) : EReal) else 0) := by
  have hl : (Shape.ofLane k : S16.Idx) = lane k := idx_ext rfl
  unfold addLane
  rw [hl]
  by_cases hm : mask (lane k) = 1
  · simp only [if_pos hm]
    by_cases hb : (b (lane k) : BitVec 32).toNat = (j 0).val
    · have hj : j = idxAt ![b] h (lane k) := idx_ext hb.symm
      rw [if_pos (fun a => congrArg (fun q : S16384.Idx => (q a).val) hj), if_pos ⟨hm, hb⟩, ← hj]
      rfl
    · rw [if_neg (fun hc => hb (hc 0).symm), if_neg (fun hc => hb hc.2), add_zero]
  · simp only [if_neg hm]
    rw [if_neg (fun hc => hm hc.1), add_zero]

/-- An add-scatter over a list of lanes, read at an entry: the entry and the values of the listed lanes that name it. -/
theorem foldl_lanes (b : Vec Ideal S16 .i32) (v : Vec Ideal S16 .f32) (mask : IVec S16 1)
    (h : ∀ (a : Fin S16384.rank) (x : S16.Idx), ((![b] : Fin 1 → IVec S16 32) a x).toNat < S16384.size a) (j : S16384.Idx) (l : List (Fin ((![16] : Fin 1 → ℕ) 0))) :
    ∀ acc : Vec Ideal S16384 .f32, (l.foldl (addLane (s := S16384) ![b] v mask h) acc j : EReal)
        = (acc j : EReal) + (l.map fun k : Fin ((![16] : Fin 1 → ℕ) 0) => (if mask (lane k) = 1 ∧ (b (lane k) : BitVec 32).toNat = (j 0).val then (v (lane k) : EReal) else 0)).sum := by
  induction l with
  | nil => intro acc; exact (add_zero (acc j : EReal)).symm
  | cons k l ih =>
    intro acc
    rw [List.foldl_cons, ih, List.map_cons, List.sum_cons, ← add_assoc]
    exact congrArg (· + _) (addLane_apply b v mask h acc k j)

/-- The add-scatter read at an entry: the entry and the values of the masked lanes that name it. -/
theorem scat_apply (acc : Vec Ideal S16384 .f32) {b : Vec Ideal S16 .i32} (v : Vec Ideal S16 .f32) (mask : IVec S16 1) (h : InTable b)
    (j : S16384.Idx) :
    (scat acc b v mask j : EReal) = (acc j : EReal)
      + ∑ k : Fin 16, (if mask (lane k) = 1 ∧ (b (lane k) : BitVec 32).toNat = (j 0).val then (v (lane k) : EReal) else 0) := by
  rw [← storeIdx_eq_scat acc b v mask h, ← List.sum_ofFn, List.ofFn_eq_map]
  exact (congrFun (storeIdx_eq_foldl acc ![b] v mask h) j).trans (foldl_lanes b v mask h j (List.finRange 16) acc)

/-- The energy of a block's atom. -/
def en (t1 t2 : Vec Ideal S128 .f32) (le : Vec Ideal S10000 .f32) (z : Vec Ideal S10000 .i32) (i : S10000.Idx) : EReal :=
  (le i : EReal) * t1 (ix1 (min (z i : BitVec 32).toNat 127) (by omega)) + t2 (ix1 (min (z i : BitVec 32).toNat 127) (by omega))

/-- What atom number `n` of a block brings to entry `j`. -/
def term (t1 t2 : Vec Ideal S128 .f32) (le : Vec Ideal S10000 .f32) (z b : Vec Ideal S10000 .i32) (j : S16384.Idx) (n : ℕ) : EReal :=
  if (b (ix1 (min n 9999) (by omega)) : BitVec 32).toNat = (j 0).val then en t1 t2 le z (ix1 (min n 9999) (by omega)) else 0

/-- What the lanes hold for entry `j`. -/
def pending (s : St Ideal) (j : S16384.Idx) : EReal :=
  ∑ k : Fin 16, (if (s.prev (lane k) : BitVec 32).toNat = (j 0).val then (s.run (lane k) : EReal) else 0)

/-- One trip over one lane: what is flushed and what the lane then holds are what it held and the new atom's energy. -/
theorem lane_step (p b : BitVec 32) (j : ℕ) (r e : EReal) :
    (if IntOp.cmpi .ne b p = 1#1 ∧ p.toNat = j then r else 0) + (if b.toNat = j then Scalar.select (IntOp.cmpi .ne b p) e (r + e) else 0)
      = (if p.toNat = j then r else 0) + (if b.toNat = j then e else 0) := by
  by_cases hbp : b = p
  · subst hbp
    have hc : IntOp.cmpi .ne b b = 0#1 := by simp [IntOp.cmpi]
    rw [hc, if_neg (fun h => absurd h.1 (by decide)), zero_add]
    by_cases hj : b.toNat = j
    · rw [if_pos hj, if_pos hj, if_pos hj]; rfl
    · rw [if_neg hj, if_neg hj, if_neg hj, add_zero]
  · have hc : IntOp.cmpi .ne b p = 1#1 := congrArg BitVec.ofBool (bne_iff_ne.2 hbp)
    rw [hc]
    have hs : Scalar.select 1#1 e (r + e) = e := rfl
    rw [hs]
    simp only [true_and]

variable (t1 t2 : Vec Ideal S128 .f32) (le : Vec Ideal S10000 .f32) (z b : Vec Ideal S10000 .i32) (acc : Vec Ideal S16384 .f32)

/-- Before the first trip the lanes hold the first sixteen atoms. -/
theorem pending_st0 (j : S16384.Idx) : pending (st0 t1 t2 le z b acc) j = ∑ k : Fin 16, term t1 t2 le z b j k.val := by
  refine Finset.sum_congr rfl fun k _ => ?_
  have h0 : (lanes (F := Ideal) 0 b (lane k) : BitVec 32) = b (ix1 (min k.val 9999) (by omega)) :=
    congrArg b (idx_ext (show min (0 + k.val) 9999 = min k.val 9999 by rw [Nat.zero_add]))
  have h1 : (k0_pay4 (gat t1 (lanes 0 z)) (gat t2 (lanes 0 z)) (lanes 0 le) (lane k) : EReal)
      = en t1 t2 le z (ix1 (min (0 + k.val) 9999) (by omega)) := rfl
  have h2 : (ix1 (min (0 + k.val) 9999) (by omega) : S10000.Idx) = ix1 (min k.val 9999) (by omega) :=
    idx_ext (show min (0 + k.val) 9999 = min k.val 9999 by rw [Nat.zero_add])
  show (if (lanes (F := Ideal) 0 b (lane k) : BitVec 32).toNat = (j 0).val then
    (k0_pay4 (gat t1 (lanes 0 z)) (gat t2 (lanes 0 z)) (lanes 0 le) (lane k) : EReal) else 0) = _
  rw [h0, h1, h2]
  rfl

/-- One trip keeps an entry and what the lanes hold for it, up to the sixteen new atoms. -/
theorem step_sum (hb : ∀ i, (b i : BitVec 32).toNat < 16384) (k : ℕ) (j : S16384.Idx) :
    ((inner t1 t2 le z b acc (k + 1)).acc j : EReal) + pending (inner t1 t2 le z b acc (k + 1)) j
      = (((inner t1 t2 le z b acc k).acc j : EReal) + pending (inner t1 t2 le z b acc k) j)
        + ∑ x : Fin 16, term t1 t2 le z b j (16 * (k + 1) + x.val) := by
  set s := inner t1 t2 le z b acc k with hs
  have hp : InTable s.prev := by rw [hs, inner_prev]; exact inTable_lanes hb _
  have hacc := scat_apply s.acc s.run (k0_pay5 s.prev (lanes (16 * k + 16) b)) hp j
  have e : ((inner t1 t2 le z b acc (k + 1)).acc j : EReal) = scat s.acc s.prev s.run (k0_pay5 s.prev (lanes (16 * k + 16) b)) j := rfl
  rw [e, hacc, add_assoc, add_assoc]
  congr 1
  unfold pending
  rw [← Finset.sum_add_distrib, ← Finset.sum_add_distrib]
  refine Finset.sum_congr rfl fun x _ => ?_
  exact lane_step (s.prev (lane x)) (lanes (F := Ideal) (16 * k + 16) b (lane x)) (j 0).val (s.run (lane x)) (en t1 t2 le z (ix1 (min (16 * k + 16 + x.val) 9999) (by omega)))

/-- After `k` trips an entry and what the lanes hold for it have grown by the atoms taken so far. -/
theorem inner_sum (hb : ∀ i, (b i : BitVec 32).toNat < 16384) (j : S16384.Idx) (k : ℕ) :
    ((inner t1 t2 le z b acc k).acc j : EReal) + pending (inner t1 t2 le z b acc k) j
      = (acc j : EReal) + ∑ n ∈ Finset.range (16 * (k + 1)), term t1 t2 le z b j n := by
  induction k with
  | zero =>
    show (acc j : EReal) + pending (st0 t1 t2 le z b acc) j = _
    rw [pending_st0, Finset.sum_range]
  | succ k ih =>
    rw [step_sum t1 t2 le z b acc hb, ih, show 16 * (k + 1 + 1) = 16 * (k + 1) + 16 by omega, Finset.sum_range_add,
      Finset.sum_range (n := 16), add_assoc]

/-- After a block an entry has grown by the block's atoms that belong to it. -/
theorem blockAcc_apply (hb : ∀ i, (b i : BitVec 32).toNat < 16384) (j : S16384.Idx) :
    (blockAcc t1 t2 le z b acc j : EReal) = (acc j : EReal) + ∑ n ∈ Finset.range 10000, term t1 t2 le z b j n := by
  have hp : InTable (inner t1 t2 le z b acc 624).prev := by rw [inner_prev]; exact inTable_lanes hb _
  refine Eq.trans (scat_apply (inner t1 t2 le z b acc 624).acc (inner t1 t2 le z b acc 624).run (fun _ => 1#1) hp j)
    (Eq.trans ?_ (inner_sum t1 t2 le z b acc hb j 624))
  congr 1
  unfold pending
  refine Finset.sum_congr rfl fun x _ => ?_
  have h1 : (1#1 : BitVec 1) = 1 := rfl
  simp only [h1, true_and]

end Cert.Proof.Seg

end
-- ==== Proof.Total.lean ====
/-
  The kernel's merged table, with the floats extended reals: entry `j` is the sum, over all 6400000 atoms, of the energies of the
  atoms whose structure is `j`.
-/
module

public import proofs.«01_k».proof.Proof.BlockSum
public import proofs.«01_k».proof.Proof.Region
public import Idealize.ShloMosaic.Lib.Pointwise

@[expose] public section

noncomputable section

namespace Cert.Proof.Seg

open Cert.KernelIdeal Cert.KernelIdeal.Gen

open Idealize.ShloMosaic Idealize.SL.Sem

/-- A sum over `m` runs of `k` numbers is the sum over all `m * k` numbers. -/
theorem sum_runs (f : ℕ → EReal) (m k : ℕ) :
    ∑ w ∈ Finset.range m, ∑ n ∈ Finset.range k, f (w * k + n) = ∑ n ∈ Finset.range (m * k), f n := by
  induction m with
  | zero => simp
  | succ m ih => rw [Finset.sum_range_succ, ih, Nat.succ_mul, Finset.sum_range_add]

variable (t1 t2 : Vec Ideal S128 .f32) (le : Vec Ideal S6400000 .f32) (z b : Vec Ideal S6400000 .i32)

/-- The energy of an atom. -/
def energy (i : S6400000.Idx) : EReal :=
  (le i : EReal) * t1 (ix1 (min (z i : BitVec 32).toNat 127) (by omega)) + t2 (ix1 (min (z i : BitVec 32).toNat 127) (by omega))

/-- What atom number `n` brings to entry `j`. -/
def share (j : S16384.Idx) (n : ℕ) : EReal :=
  if (b (ix1 (min n 6399999) (by omega)) : BitVec 32).toNat = (j 0).val then energy t1 t2 le z (ix1 (min n 6399999) (by omega)) else 0

/-- A block's atom brings what the array's atom brings. -/
theorem term_blk (o n : ℕ) (hn : n < 10000) (j : S16384.Idx) :
    term t1 t2 (blk o le) (blk o z) (blk o b) j n = share t1 t2 le z b j (o + n) := by
  have hi : (ix1 (min (o + min n 9999) 6399999) (by omega) : S6400000.Idx) = ix1 (min (o + n) 6399999) (by omega) :=
    idx_ext (show min (o + min n 9999) 6399999 = min (o + n) 6399999 by omega)
  show (if (b (ix1 (min (o + min n 9999) 6399999) (by omega)) : BitVec 32).toNat = (j 0).val then
    energy t1 t2 le z (ix1 (min (o + min n 9999) 6399999) (by omega)) else 0) = _
  rw [hi]
  rfl

/-- A tile's table after `g` blocks: the sums over the tile's first `10000 * g` atoms. -/
theorem accAfter_apply (hb : ∀ i, (b i : BitVec 32).toNat < 16384) (w : ℕ) (j : S16384.Idx) (g : ℕ) :
    (accAfter t1 t2 le z b w g j : EReal) = ∑ n ∈ Finset.range (10000 * g), share t1 t2 le z b j (w * 200000 + n) := by
  induction g with
  | zero => exact Ideal.ofBits_zero_f32
  | succ g ih =>
    have hs : (accAfter t1 t2 le z b w (g + 1) j : EReal) = (accAfter t1 t2 le z b w g j : EReal)
        + ∑ n ∈ Finset.range 10000, term t1 t2 (blk (w * 200000 + 10000 * g) le) (blk (w * 200000 + 10000 * g) z) (blk (w * 200000 + 10000 * g) b) j n :=
      blockAcc_apply t1 t2 _ _ _ _ (fun i => hb _) j
    rw [hs, ih, Nat.mul_succ 10000 g, Finset.sum_range_add]
    refine congrArg (_ + ·) (Finset.sum_congr rfl fun n hn => ?_)
    rw [term_blk t1 t2 le z b _ n (Finset.mem_range.1 hn), Nat.add_assoc]

/-- The merged table is the sum of the tiles' tables. -/
theorem merged_apply (o : Vec Ideal S32x16384 .f32) (j : S16384.Idx) :
    (merged o j : EReal) = ∑ w : Fin 32, (o (ValueIdx.ix2 w (j 0)) : EReal) := by
  unfold merged k1_pay1
  pointwise
  rfl

/-- Entry `j` of the kernel's table: the sum over all the atoms. -/
theorem merged_parts (hb : ∀ i, (b i : BitVec 32).toNat < 16384) (j : S16384.Idx) :
    (merged (parts t1 t2 le z b) j : EReal) = ∑ n ∈ Finset.range 6400000, share t1 t2 le z b j n := by
  rw [merged_apply, show 6400000 = 32 * 200000 from rfl, ← sum_runs, Finset.sum_range (n := 32)]
  refine Finset.sum_congr rfl fun w _ => ?_
  have hj : (ix1 (j 0).val (j 0).isLt : S16384.Idx) = j := idx_ext rfl
  have h := accAfter_apply t1 t2 le z b hb w.val j 20
  rw [← h]
  show (accAfter t1 t2 le z b w.val 20 (ix1 (j 0).val (j 0).isLt) : EReal) = _
  rw [hj]

end Cert.Proof.Seg

end
-- ==== Proof.Tables.lean ====
/-
  The padded species tables, read at a species: a table of 119 entries written at the head of a row of 128 zeros still holds entry
  `k` at place `k`.
-/
module

public import proofs.«01_k».proof.Proof.Deal
public import Idealize.ShloMosaic.Lib.Routing.OpsPair
public import Idealize.ShloMosaic.Lib.Routing.OpsSet

@[expose] public section

noncomputable section

namespace Cert.Proof.Seg

open Cert.KernelIdeal Cert.KernelIdeal.Gen

open Idealize.ShloMosaic Idealize.SL.Sem

variable {F : FTy → Type} [FloatOps F]

/-- Update number `q` of the padding lands at place `q`. -/
theorem pad_lands (q : S119.Idx) (i : S128.Idx) :
    scatter_S128_S1_S119_0_n_0_0.resultIdx? q (broadcastInDim S1 ![] bcast_S_S1 (constantI S_ 32 0#32)) = some i ↔ (q 0).val = (i 0).val := by
  have hs : scatter_S128_S1_S119_0_n_0_0.start q (broadcastInDim S1 ![] bcast_S_S1 (constantI S_ 32 0#32)) 0 = 0 := rfl
  have hw : scatter_S128_S1_S119_0_n_0_0.window q 0 = (q 0).val := rfl
  rw [Routing.resultIdx?_eq_some]
  constructor
  · intro h
    have h0 := h 0
    rw [hs, hw] at h0
    omega
  · intro h a
    rw [Fin.eq_zero a, hs, hw]
    omega

/-- A padded table read at a species is the table's entry. -/
theorem tab_apply (x : Vec F S119 .f32) (k : ℕ) (hk : k < 119) (hk' : k < 128) : tab x (ix1 k hk') = x (ix1 k hk) := by
  refine Routing.scatter_set_hit scatter_S128_S1_S119_0_n_0_0 _ _ x (ix1 k hk') (x (ix1 k hk)) (fun q hq => ?_) (ix1 k hk) ((pad_lands _ _).2 rfl)
  exact congrArg x (idx_ext ((pad_lands q _).1 hq))

end Cert.Proof.Seg

end
-- ==== Proof.RefSum.lean ====
/-
  The reference's result, with the floats extended reals and the index arrays in range: entry `j` is the sum, over all 6400000
  atoms, of the energies of the atoms whose structure is `j`.
-/
module

public import proofs.«01_k».proof.Proof.Gen.ReferenceIdeal
public import Idealize.ShloMosaic.Lib.Routing.OpsPair
public import Idealize.ShloMosaic.Lib.Routing.OpsSet
public import Idealize.ShloMosaic.Lib.Routing.OpsSearch
public import Idealize.ShloMosaic.Lib.ReduceAll
public import Idealize.ShloMosaic.Lib.Pointwise

@[expose] public section

noncomputable section

namespace Cert.Proof.Ref

open Cert.ReferenceIdeal Cert.ReferenceIdeal.Gen

open Idealize.ShloMosaic Idealize.SL.Sem

/-- The index words of a lookup: a negative species counts from the table's end. -/
def words (z : IVec S6400000 32) : IVec S6400000x1 32 :=
  broadcastInDim S6400000x1 ![0] bcast_S6400000_S6400000x1_0 (select (cmpi .slt z (broadcastInDim S6400000 ![] bcast_S_S6400000 (constantI S_ 32 0#32)))
    (addi z (broadcastInDim S6400000 ![] bcast_S_S6400000 (constantI S_ 32 119#32))) z)

/-- For each atom, whether its index word is in the table. -/
def inside (z : IVec S6400000 32) : IVec S6400000 1 :=
  Host.reduce IntOp.andi (andi (cmpi .sge (words z) (broadcastInDim S6400000x1 ![] bcast_S_S6400000x1 (constantI S_ 32 0#32)))
    (cmpi .sle (words z) (broadcastInDim S6400000x1 ![0, 1] bcast_S1x1_S6400000x1_0_1 (broadcastInDim S1x1 ![1] bcast_S1_S1x1_1 (constantI S1 32 118#32)))))
    (constantI S_ 1 1#1) reducesTo_S6400000x1_S6400000_d1 h_S_

/-- A species table looked up at every atom. -/
def look (t : Vec Ideal S119 .f32) (z : IVec S6400000 32) : FVec Ideal S6400000 .f32 :=
  select (inside z) (Host.gather gather_S119_S6400000x1_S6400000_n_0_n_n_0_1_1 t (words z))
    (broadcastInDim S6400000 ![] bcast_S_S6400000 (constant S_ .f32 0x7FC00000#32))

/-- The reference's result. -/
def result (le : Vec Ideal S6400000 .f32) (z b : IVec S6400000 32) (sc sh : Vec Ideal S119 .f32) : FVec Ideal S16384 .f32 :=
  Host.scatterAdd scatter_S16384_S6400000x1_S6400000_n_0_0_1 (broadcastInDim S16384 ![] bcast_S_S16384 (constant S_ .f32 0x00000000#32))
    (broadcastInDim S6400000x1 ![0] bcast_S6400000_S6400000x1_0 b) (addf (mulf le (look sc z)) (look sh z))

/-- A species in range is its own index word. -/
theorem words_apply (z : IVec S6400000 32) (hz : ∀ i, (z i).toNat < 119) (x : S6400000x1.Idx) : words z x = z (ValueIdx.ix1 (x 0)) := by
  have h := hz (ValueIdx.ix1 (x 0))
  have e : words z x = Scalar.select (IntOp.cmpi .slt (z (ValueIdx.ix1 (x 0))) 0#32) (IntOp.addi (z (ValueIdx.ix1 (x 0))) 119#32) (z (ValueIdx.ix1 (x 0))) := by
    unfold words
    pointwise
    rfl
  rw [e]
  exact Routing.wrap_of_lt _ _ (by show (z (ValueIdx.ix1 (x 0))).toNat < 2147483648; omega)

/-- Species in range are inside the table. -/
theorem inside_apply (z : IVec S6400000 32) (hz : ∀ i, (z i).toNat < 119) (i : S6400000.Idx) : inside z i = 1#1 := by
  refine Host.reduce_andi_one _ _ _ _ i rfl fun x => ?_
  have h := hz (ValueIdx.ix1 (x 0))
  have hw := words_apply z hz x
  have e : (andi (cmpi .sge (words z) (broadcastInDim S6400000x1 ![] bcast_S_S6400000x1 (constantI S_ 32 0#32)))
    (cmpi .sle (words z) (broadcastInDim S6400000x1 ![0, 1] bcast_S1x1_S6400000x1_0_1 (broadcastInDim S1x1 ![1] bcast_S1_S1x1_1 (constantI S1 32 118#32))))) x
      = IntOp.andi (IntOp.cmpi .sge (z (ValueIdx.ix1 (x 0))) 0#32) (IntOp.cmpi .sle (z (ValueIdx.ix1 (x 0))) 118#32) := by
    rw [← hw]
    rfl
  rw [e]
  generalize z (ValueIdx.ix1 (x 0)) = w at h
  have h1 : IntOp.cmpi .sge w 0#32 = 1#1 := by
    show BitVec.ofBool ((0#32).sle w) = 1#1
    rw [show (0#32).sle w = true by
      rw [BitVec.sle_iff_toInt_le, BitVec.toInt_eq_toNat_of_lt (x := w) (by omega), show (0#32).toInt = 0 from rfl]; omega]
    rfl
  have h2 : IntOp.cmpi .sle w 118#32 = 1#1 := by
    show BitVec.ofBool (w.sle 118#32) = 1#1
    rw [show w.sle 118#32 = true by
      rw [BitVec.sle_iff_toInt_le, BitVec.toInt_eq_toNat_of_lt (x := w) (by omega), show (118#32).toInt = 118 from rfl]; omega]
    rfl
  rw [h1, h2]
  rfl

/-- A lookup in range is the table's entry. -/
theorem look_apply (t : Vec Ideal S119 .f32) (z : IVec S6400000 32) (hz : ∀ i, (z i).toNat < 119) (i : Fin 6400000) :
    look t z (ValueIdx.ix1 i) = t (ValueIdx.ix1 ⟨(z (ValueIdx.ix1 i)).toNat, hz _⟩) := by
  have e : look t z (ValueIdx.ix1 i) = Scalar.select (inside z (ValueIdx.ix1 i)) (Host.gather gather_S119_S6400000x1_S6400000_n_0_n_n_0_1_1 t (words z) (ValueIdx.ix1 i))
      (broadcastInDim S6400000 ![] bcast_S_S6400000 (constant (F := Ideal) S_ .f32 0x7FC00000#32) (ValueIdx.ix1 i)) := rfl
  rw [e, inside_apply z hz]
  refine Eq.trans (b := Host.gather gather_S119_S6400000x1_S6400000_n_0_n_n_0_1_1 t (words z) (ValueIdx.ix1 i)) rfl ?_
  refine Routing.gather_take1 gather_S119_S6400000x1_S6400000_n_0_n_n_0_1_1 rfl rfl rfl rfl t (words z) i ⟨(z (ValueIdx.ix1 i)).toNat, hz _⟩ ?_ (by decide)
  rw [words_apply z hz]
  simp

/-- An array of words as a column, read at an index. -/
theorem column_apply (b : IVec S6400000 32) (x : S6400000x1.Idx) :
    broadcastInDim S6400000x1 ![0] bcast_S6400000_S6400000x1_0 b x = b (ValueIdx.ix1 (x 0)) := by
  pointwise
  rfl

/-- The adding scatter read at an element: the element and the updates that land there. -/
theorem scatterAdd_apply {s si u : Shape} {w : ℕ} (d : ScatterDims s si u) (x : FVec Ideal s .f32) (idx : IVec si w) (upd : FVec Ideal u .f32)
    (j : s.Idx) :
    (Host.scatterAdd d x idx upd j : EReal) = (x j : EReal) + ∑ i : u.Idx, (if d.resultIdx? i idx = some j then (upd i : EReal) else 0) := by
  rw [← Finset.sum_filter]
  rfl

/-- A sum over the indices of a vector is a sum over its positions. -/
theorem sum_idx {n : ℕ} (f : (⟨1, ![n]⟩ : Shape).Idx → EReal) : ∑ i, f i = ∑ q : Fin n, f (ValueIdx.ix1 q) := by
  refine Finset.sum_bij' (fun i _ => (i 0 : Fin n)) (fun q _ => ValueIdx.ix1 q) (fun _ _ => Finset.mem_univ _) (fun _ _ => Finset.mem_univ _)
    (fun i _ => ?_) (fun q _ => rfl) (fun i _ => ?_)
  · funext a
    rw [Fin.eq_zero a]
  · congr 1
    funext a
    rw [Fin.eq_zero a]

/-- Atom `q` lands at its structure's entry. -/
theorem lands (b : IVec S6400000 32) (hb : ∀ i, (b i).toNat < 16384) (q : Fin 6400000) (j : S16384.Idx) :
    scatter_S16384_S6400000x1_S6400000_n_0_0_1.resultIdx? (ValueIdx.ix1 q) (broadcastInDim S6400000x1 ![0] bcast_S6400000_S6400000x1_0 b) = some j
      ↔ (b (ValueIdx.ix1 q)).toNat = (j 0).val := by
  have h := hb (ValueIdx.ix1 q)
  have hs : scatter_S16384_S6400000x1_S6400000_n_0_0_1.start (ValueIdx.ix1 q) (broadcastInDim S6400000x1 ![0] bcast_S6400000_S6400000x1_0 b) 0
      = (b (ValueIdx.ix1 q)).toInt := by
    unfold ScatterDims.start
    rw [dif_pos (show (0 : Fin 1) ∈ scatter_S16384_S6400000x1_S6400000_n_0_0_1.scatterDimsToOperandDims from List.mem_singleton.2 rfl), column_apply]
    rfl
  have hw : scatter_S16384_S6400000x1_S6400000_n_0_0_1.window (ValueIdx.ix1 q) 0 = 0 := rfl
  have hi : (b (ValueIdx.ix1 q)).toInt = ((b (ValueIdx.ix1 q)).toNat : Int) := BitVec.toInt_eq_toNat_of_lt (by omega)
  rw [Routing.resultIdx?_eq_some]
  constructor
  · intro h
    have h0 := h 0
    rw [hs, hw, hi] at h0
    omega
  · intro h a
    rw [Fin.eq_zero a, hs, hw, hi]
    omega

/-- Entry `j` of the reference's result: the sum over all the atoms. -/
theorem result_apply (le : Vec Ideal S6400000 .f32) (z b : IVec S6400000 32) (sc sh : Vec Ideal S119 .f32) (hz : ∀ i, (z i).toNat < 119)
    (hb : ∀ i, (b i).toNat < 16384) (j : S16384.Idx) :
    (result le z b sc sh j : EReal) = ∑ q : Fin 6400000, (if (b (ValueIdx.ix1 q)).toNat = (j 0).val then
      (le (ValueIdx.ix1 q) : EReal) * sc (ValueIdx.ix1 ⟨(z (ValueIdx.ix1 q)).toNat, hz _⟩) + sh (ValueIdx.ix1 ⟨(z (ValueIdx.ix1 q)).toNat, hz _⟩) else 0) := by
  unfold result
  rw [scatterAdd_apply, sum_idx, show (broadcastInDim S16384 ![] bcast_S_S16384 (constant (F := Ideal) S_ .f32 0x00000000#32) j : EReal) = 0 from
    Ideal.ofBits_zero_f32, zero_add]
  refine Finset.sum_congr rfl fun q _ => ?_
  refine if_congr (lands b hb q j) ?_ rfl
  show (le (ValueIdx.ix1 q) : EReal) * look sc z (ValueIdx.ix1 q) + look sh z (ValueIdx.ix1 q) = _
  rw [look_apply sc z hz, look_apply sh z hz]

end Cert.Proof.Ref

end
-- ==== Proof.Value.lean ====
/-
  The kernel's table is the reference's result, with the floats extended reals and the index arrays in range, and with it the
  claim of equal results.
-/
module

public import proofs.«01_k».proof.Proof.Frames
public import proofs.«01_k».proof.Proof.Total
public import proofs.«01_k».proof.Proof.Tables
public import proofs.«01_k».proof.Proof.RefSum

@[expose] public section

noncomputable section

namespace Cert.Proof

open Idealize.ShloMosaic Idealize.SL.Sem

/-- The merged table of the padded species tables and the reference's result are the same function of the arguments. -/
theorem merged_eq_result (le : Vec Ideal Cert.KernelIdeal.S6400000 .f32) (z b : Vec Ideal Cert.KernelIdeal.S6400000 .i32)
    (sc sh : Vec Ideal Cert.KernelIdeal.S119 .f32) (hz : ∀ i, (z i : BitVec 32).toNat < 119) (hb : ∀ i, (b i : BitVec 32).toNat < 16384) :
    Seg.merged (Seg.parts (Seg.tab sc) (Seg.tab sh) le z b) = Ref.result le z b sc sh := by
  funext j
  refine (Seg.merged_parts (Seg.tab sc) (Seg.tab sh) le z b hb j).trans (Eq.trans ?_ (Ref.result_apply le z b sc sh hz hb j).symm)
  rw [Finset.sum_range]
  refine Finset.sum_congr rfl fun q _ => ?_
  have hq : (Seg.ix1 (min q.val 6399999) (by omega) : Cert.KernelIdeal.S6400000.Idx) = ValueIdx.ix1 q :=
    Seg.idx_ext (show min q.val 6399999 = q.val by have := q.isLt; omega)
  unfold Seg.share Seg.energy
  rw [hq]
  have h := hz (ValueIdx.ix1 q)
  have hk : (Seg.ix1 (min (z (ValueIdx.ix1 q) : BitVec 32).toNat 127) (by omega) : Cert.KernelIdeal.S128.Idx)
      = Seg.ix1 (z (ValueIdx.ix1 q) : BitVec 32).toNat (by omega) :=
    Seg.idx_ext (show min (z (ValueIdx.ix1 q) : BitVec 32).toNat 127 = (z (ValueIdx.ix1 q) : BitVec 32).toNat by omega)
  have hx : (Seg.ix1 (z (ValueIdx.ix1 q) : BitVec 32).toNat h : Cert.KernelIdeal.S119.Idx) = ValueIdx.ix1 ⟨(z (ValueIdx.ix1 q) : BitVec 32).toNat, h⟩ :=
    Seg.idx_ext rfl
  rw [hk, Seg.tab_apply sc _ h, Seg.tab_apply sh _ h, hx]

/-- From inputs in range the kernel and the reference end with the same result. -/
theorem algebraic : Cert.algebraic_KernelIdeal_ReferenceIdeal := by
  intro m g m' g' hp hargs
  have ok := ok_ideal m hp
  refine ⟨fun c => Seg.merged (Seg.partsOf m c), ?_, ?_⟩
  · refine (θ_run Cert.KernelIdeal.defs _ _).mono (fun _ h c => ?_) (Seg.run_main m g ok)
    obtain ⟨h0, h1, h2, h3, h4, h5⟩ := h.1 c
    exact ⟨h5, h0, h1, h2, h3, h4⟩
  · refine (θ_run Cert.ReferenceIdeal.defs _ _).mono (fun r h c => ?_) (Cert.ReferenceIdeal.Value.run (F := Ideal) m' g')
    refine ⟨(h c).1.trans ?_, (h c).2⟩
    obtain ⟨a0, a1, a2, a3, a4⟩ := hargs c
    rw [a0, a1, a2, a3, a4]
    exact (merged_eq_result (m (Seg.leLoc c)) (m (Seg.zLoc c)) (m (Seg.bLoc c)) (m (Seg.scLoc c)) (m (Seg.shLoc c)) (ok c).1 (ok c).2).symm

end Cert.Proof

end
-- ==== Proof.lean ====
/-
  The claims together: the frames of the kernel, of its ideal reading and of the reference, the kept text of the kernel, and the
  equality of the kernel's result and the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_in_range.Gen.facts,
    frame_kernel, frame_ideal, frame_reference, frame_reference_pre, trivial, algebraic⟩

end Cert.Proof

end
